-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Assign (m : (ℓ : Loc Cert.Assign.nD Cert.Assign.τ Cert.Assign.sig) → Buf (Elt Bits) ℓ) : Prop :=
  True

def Pre_AssignIdeal (m : (ℓ : Loc Cert.AssignIdeal.nD Cert.AssignIdeal.τ Cert.AssignIdeal.sig) → Buf (Elt Ideal) ℓ) : Prop :=
  True

def Pre_AssignIdeal_finite [hPre_finite : Cert.Pre_finite.Facts] (m : (ℓ : Loc Cert.AssignIdeal.nD Cert.AssignIdeal.τ Cert.AssignIdeal.sig) → Buf (Elt Ideal) ℓ) : Prop :=
  ∀ c : Dev Cert.AssignIdeal.nD,
    (Cert.Pre_finite.fn (F := Ideal) (m ((c.tc : Thread Cert.AssignIdeal.nD Cert.AssignIdeal.τ).loc Cert.AssignIdeal.main_arg0)) (m ((c.tc : Thread Cert.AssignIdeal.nD Cert.AssignIdeal.τ).loc Cert.AssignIdeal.main_arg1))).1 = (fun _ => 1#1)
    ∧ (Cert.Pre_finite.fn (F := Ideal) (m ((c.tc : Thread Cert.AssignIdeal.nD Cert.AssignIdeal.τ).loc Cert.AssignIdeal.main_arg0)) (m ((c.tc : Thread Cert.AssignIdeal.nD Cert.AssignIdeal.τ).loc Cert.AssignIdeal.main_arg1))).2 = (fun _ => 1#1)

def Pre_AssignReferenceIdeal (m : (ℓ : Loc Cert.AssignReferenceIdeal.nD Cert.AssignReferenceIdeal.τ Cert.AssignReferenceIdeal.sig) → Buf (Elt Ideal) ℓ) : Prop :=
  True

def Pre_AssignReferenceIdeal_finite [hPre_finite : Cert.Pre_finite.Facts] (m : (ℓ : Loc Cert.AssignReferenceIdeal.nD Cert.AssignReferenceIdeal.τ Cert.AssignReferenceIdeal.sig) → Buf (Elt Ideal) ℓ) : Prop :=
  ∀ c : Dev Cert.AssignReferenceIdeal.nD,
    (Cert.Pre_finite.fn (F := Ideal) (m ((c.tc : Thread Cert.AssignReferenceIdeal.nD Cert.AssignReferenceIdeal.τ).loc Cert.AssignReferenceIdeal.main_arg0)) (m ((c.tc : Thread Cert.AssignReferenceIdeal.nD Cert.AssignReferenceIdeal.τ).loc Cert.AssignReferenceIdeal.main_arg1))).1 = (fun _ => 1#1)
    ∧ (Cert.Pre_finite.fn (F := Ideal) (m ((c.tc : Thread Cert.AssignReferenceIdeal.nD Cert.AssignReferenceIdeal.τ).loc Cert.AssignReferenceIdeal.main_arg0)) (m ((c.tc : Thread Cert.AssignReferenceIdeal.nD Cert.AssignReferenceIdeal.τ).loc Cert.AssignReferenceIdeal.main_arg1))).2 = (fun _ => 1#1)

def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1))).1 = (fun _ => 1#1)
    ∧ (Cert.Pre_in_range.fn (F := Bits) (m ((c.tc : Thread Cert.Gather.nD Cert.Gather.τ).loc Cert.Gather.main_arg0)) (m ((c.tc : Thread Cert.Gather.nD Cert.Gather.τ).loc Cert.Gather.main_arg1))).2 = (fun _ => 1#1)

def Pre_GatherIdeal [hPre_in_range : Cert.Pre_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))).1 = (fun _ => 1#1)
    ∧ (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))).2 = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_in_range [hPre_in_range : Cert.Pre_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))).1 = (fun _ => 1#1)
    ∧ (Cert.Pre_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))).2 = (fun _ => 1#1)

def Pre_GatherReference [hPre_in_range : Cert.Pre_in_range.Facts] (m : (ℓ : Loc Cert.GatherReference.nD Cert.GatherReference.τ Cert.GatherReference.sig) → Buf (Elt Bits) ℓ) : Prop :=
  ∀ c : Dev Cert.GatherReference.nD,
    (Cert.Pre_in_range.fn (F := Bits) (m ((c.tc : Thread Cert.GatherReference.nD Cert.GatherReference.τ).loc Cert.GatherReference.main_arg0)) (m ((c.tc : Thread Cert.GatherReference.nD Cert.GatherReference.τ).loc Cert.GatherReference.main_arg1))).1 = (fun _ => 1#1)
    ∧ (Cert.Pre_in_range.fn (F := Bits) (m ((c.tc : Thread Cert.GatherReference.nD Cert.GatherReference.τ).loc Cert.GatherReference.main_arg0)) (m ((c.tc : Thread Cert.GatherReference.nD Cert.GatherReference.τ).loc Cert.GatherReference.main_arg1))).2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Assign [hAssign : Cert.Assign.Facts] : Prop :=
  ∀ (m : (ℓ : Loc Cert.Assign.nD Cert.Assign.τ Cert.Assign.sig) → Buf (Elt Bits) ℓ) (g : Dev Cert.Assign.nD → PrngReg), Pre_Assign m →
    θ_run (Cert.Assign.defs (F := Bits)) (onTc (τ := Cert.Assign.τ) (Cert.Assign.main (F := Bits))) ⟨m, fun _ => 0, g⟩ (fun r => (∀ c : Dev Cert.Assign.nD,
      r.2.mem ((c.tc : Thread Cert.Assign.nD Cert.Assign.τ).loc Cert.Assign.main_arg0) = m ((c.tc : Thread Cert.Assign.nD Cert.Assign.τ).loc Cert.Assign.main_arg0)
      ∧ r.2.mem ((c.tc : Thread Cert.Assign.nD Cert.Assign.τ).loc Cert.Assign.main_arg1) = m ((c.tc : Thread Cert.Assign.nD Cert.Assign.τ).loc Cert.Assign.main_arg1))
      ∧ r.2.sem = fun _ => 0)

def quiescent_AssignIdeal [hAssignIdeal : Cert.AssignIdeal.Facts] : Prop :=
  ∀ (m : (ℓ : Loc Cert.AssignIdeal.nD Cert.AssignIdeal.τ Cert.AssignIdeal.sig) → Buf (Elt Ideal) ℓ) (g : Dev Cert.AssignIdeal.nD → PrngReg), Pre_AssignIdeal m →
    θ_run (Cert.AssignIdeal.defs (F := Ideal)) (onTc (τ := Cert.AssignIdeal.τ) (Cert.AssignIdeal.main (F := Ideal))) ⟨m, fun _ => 0, g⟩ (fun r => (∀ c : Dev Cert.AssignIdeal.nD,
      r.2.mem ((c.tc : Thread Cert.AssignIdeal.nD Cert.AssignIdeal.τ).loc Cert.AssignIdeal.main_arg0) = m ((c.tc : Thread Cert.AssignIdeal.nD Cert.AssignIdeal.τ).loc Cert.AssignIdeal.main_arg0)
      ∧ r.2.mem ((c.tc : Thread Cert.AssignIdeal.nD Cert.AssignIdeal.τ).loc Cert.AssignIdeal.main_arg1) = m ((c.tc : Thread Cert.AssignIdeal.nD Cert.AssignIdeal.τ).loc Cert.AssignIdeal.main_arg1))
      ∧ r.2.sem = fun _ => 0)

def quiescent_AssignIdeal_pre_finite [hAssignIdeal : Cert.AssignIdeal.Facts] [hPre_finite : Cert.Pre_finite.Facts] : Prop :=
  ∀ (m : (ℓ : Loc Cert.AssignIdeal.nD Cert.AssignIdeal.τ Cert.AssignIdeal.sig) → Buf (Elt Ideal) ℓ) (g : Dev Cert.AssignIdeal.nD → PrngReg), Pre_AssignIdeal_finite m →
    θ_run (Cert.AssignIdeal.defs (F := Ideal)) (onTc (τ := Cert.AssignIdeal.τ) (Cert.AssignIdeal.main (F := Ideal))) ⟨m, fun _ => 0, g⟩ (fun r => (∀ c : Dev Cert.AssignIdeal.nD,
      r.2.mem ((c.tc : Thread Cert.AssignIdeal.nD Cert.AssignIdeal.τ).loc Cert.AssignIdeal.main_arg0) = m ((c.tc : Thread Cert.AssignIdeal.nD Cert.AssignIdeal.τ).loc Cert.AssignIdeal.main_arg0)
      ∧ r.2.mem ((c.tc : Thread Cert.AssignIdeal.nD Cert.AssignIdeal.τ).loc Cert.AssignIdeal.main_arg1) = m ((c.tc : Thread Cert.AssignIdeal.nD Cert.AssignIdeal.τ).loc Cert.AssignIdeal.main_arg1))
      ∧ r.2.sem = fun _ => 0)

def quiescent_AssignReferenceIdeal [hAssignReferenceIdeal : Cert.AssignReferenceIdeal.Facts] : Prop :=
  ∀ (m : (ℓ : Loc Cert.AssignReferenceIdeal.nD Cert.AssignReferenceIdeal.τ Cert.AssignReferenceIdeal.sig) → Buf (Elt Ideal) ℓ) (g : Dev Cert.AssignReferenceIdeal.nD → PrngReg), Pre_AssignReferenceIdeal m →
    θ_run (Cert.AssignReferenceIdeal.defs (F := Ideal)) (onTc (τ := Cert.AssignReferenceIdeal.τ) (Cert.AssignReferenceIdeal.main (F := Ideal))) ⟨m, fun _ => 0, g⟩ (fun r => (∀ c : Dev Cert.AssignReferenceIdeal.nD,
      r.2.mem ((c.tc : Thread Cert.AssignReferenceIdeal.nD Cert.AssignReferenceIdeal.τ).loc Cert.AssignReferenceIdeal.main_arg0) = m ((c.tc : Thread Cert.AssignReferenceIdeal.nD Cert.AssignReferenceIdeal.τ).loc Cert.AssignReferenceIdeal.main_arg0)
      ∧ r.2.mem ((c.tc : Thread Cert.AssignReferenceIdeal.nD Cert.AssignReferenceIdeal.τ).loc Cert.AssignReferenceIdeal.main_arg1) = m ((c.tc : Thread Cert.AssignReferenceIdeal.nD Cert.AssignReferenceIdeal.τ).loc Cert.AssignReferenceIdeal.main_arg1))
      ∧ r.2.sem = fun _ => 0)

def quiescent_AssignReferenceIdeal_pre_finite [hAssignReferenceIdeal : Cert.AssignReferenceIdeal.Facts] [hPre_finite : Cert.Pre_finite.Facts] : Prop :=
  ∀ (m : (ℓ : Loc Cert.AssignReferenceIdeal.nD Cert.AssignReferenceIdeal.τ Cert.AssignReferenceIdeal.sig) → Buf (Elt Ideal) ℓ) (g : Dev Cert.AssignReferenceIdeal.nD → PrngReg), Pre_AssignReferenceIdeal_finite m →
    θ_run (Cert.AssignReferenceIdeal.defs (F := Ideal)) (onTc (τ := Cert.AssignReferenceIdeal.τ) (Cert.AssignReferenceIdeal.main (F := Ideal))) ⟨m, fun _ => 0, g⟩ (fun r => (∀ c : Dev Cert.AssignReferenceIdeal.nD,
      r.2.mem ((c.tc : Thread Cert.AssignReferenceIdeal.nD Cert.AssignReferenceIdeal.τ).loc Cert.AssignReferenceIdeal.main_arg0) = m ((c.tc : Thread Cert.AssignReferenceIdeal.nD Cert.AssignReferenceIdeal.τ).loc Cert.AssignReferenceIdeal.main_arg0)
      ∧ r.2.mem ((c.tc : Thread Cert.AssignReferenceIdeal.nD Cert.AssignReferenceIdeal.τ).loc Cert.AssignReferenceIdeal.main_arg1) = m ((c.tc : Thread Cert.AssignReferenceIdeal.nD Cert.AssignReferenceIdeal.τ).loc Cert.AssignReferenceIdeal.main_arg1))
      ∧ r.2.sem = fun _ => 0)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_in_range [hGatherReferenceIdeal : Cert.GatherReferenceIdeal.Facts] [hPre_in_range : Cert.Pre_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_in_range m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReference [hGatherReference : Cert.GatherReference.Facts] [hPre_in_range : Cert.Pre_in_range.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Assign_AssignIdeal : Prop :=
  IdealRules.named_const.Statement Cert.AssignIdeal.κ "loss_scale" .f32 0x368E38E4#32 ((5 / 1179648 : ℝ) : EReal)

def algebraic_AssignIdeal_AssignReferenceIdeal_pre_finite [hAssignIdeal : Cert.AssignIdeal.Facts] [hAssignReferenceIdeal : Cert.AssignReferenceIdeal.Facts] [hPre_finite : Cert.Pre_finite.Facts] : Prop :=
  ∀ (m : (ℓ : Loc Cert.AssignIdeal.nD Cert.AssignIdeal.τ Cert.AssignIdeal.sig) → Buf (Elt Ideal) ℓ) (g : Dev Cert.AssignIdeal.nD → PrngReg)
    (m' : (ℓ : Loc Cert.AssignReferenceIdeal.nD Cert.AssignReferenceIdeal.τ Cert.AssignReferenceIdeal.sig) → Buf (Elt Ideal) ℓ) (g' : Dev Cert.AssignReferenceIdeal.nD → PrngReg), Pre_AssignIdeal_finite m →
    (∀ c : Dev Cert.AssignIdeal.nD,
      m' ((c.tc : Thread Cert.AssignReferenceIdeal.nD Cert.AssignReferenceIdeal.τ).loc Cert.AssignReferenceIdeal.main_arg0) = m ((c.tc : Thread Cert.AssignIdeal.nD Cert.AssignIdeal.τ).loc Cert.AssignIdeal.main_arg0)
      ∧ m' ((c.tc : Thread Cert.AssignReferenceIdeal.nD Cert.AssignReferenceIdeal.τ).loc Cert.AssignReferenceIdeal.main_arg1) = m ((c.tc : Thread Cert.AssignIdeal.nD Cert.AssignIdeal.τ).loc Cert.AssignIdeal.main_arg1)) →
    ∃ (v0 : (c : Dev Cert.AssignIdeal.nD) → Buf (Elt Ideal) ((c.tc : Thread Cert.AssignIdeal.nD Cert.AssignIdeal.τ).loc Cert.AssignIdeal.main_v1_0)) (v1 : (c : Dev Cert.AssignIdeal.nD) → Buf (Elt Ideal) ((c.tc : Thread Cert.AssignIdeal.nD Cert.AssignIdeal.τ).loc Cert.AssignIdeal.main_v1_1)),
      θ_run (Cert.AssignIdeal.defs (F := Ideal)) (onTc (τ := Cert.AssignIdeal.τ) (Cert.AssignIdeal.main (F := Ideal))) ⟨m, fun _ => 0, g⟩ (fun r => ∀ c : Dev Cert.AssignIdeal.nD,
          r.2.mem ((c.tc : Thread Cert.AssignIdeal.nD Cert.AssignIdeal.τ).loc Cert.AssignIdeal.main_v1_0) = v0 c
          ∧ r.2.mem ((c.tc : Thread Cert.AssignIdeal.nD Cert.AssignIdeal.τ).loc Cert.AssignIdeal.main_v1_1) = v1 c
          ∧ r.2.mem ((c.tc : Thread Cert.AssignIdeal.nD Cert.AssignIdeal.τ).loc Cert.AssignIdeal.main_arg0) = m ((c.tc : Thread Cert.AssignIdeal.nD Cert.AssignIdeal.τ).loc Cert.AssignIdeal.main_arg0)
          ∧ r.2.mem ((c.tc : Thread Cert.AssignIdeal.nD Cert.AssignIdeal.τ).loc Cert.AssignIdeal.main_arg1) = m ((c.tc : Thread Cert.AssignIdeal.nD Cert.AssignIdeal.τ).loc Cert.AssignIdeal.main_arg1))
      ∧ θ_run (Cert.AssignReferenceIdeal.defs (F := Ideal)) (onTc (τ := Cert.AssignReferenceIdeal.τ) (Cert.AssignReferenceIdeal.main (F := Ideal))) ⟨m', fun _ => 0, g'⟩ (fun r => ∀ c : Dev Cert.AssignReferenceIdeal.nD,
          r.2.mem ((c.tc : Thread Cert.AssignReferenceIdeal.nD Cert.AssignReferenceIdeal.τ).loc Cert.AssignReferenceIdeal.main_v15) = v0 c
          ∧ r.2.mem ((c.tc : Thread Cert.AssignReferenceIdeal.nD Cert.AssignReferenceIdeal.τ).loc Cert.AssignReferenceIdeal.main_v46) = v1 c
          ∧ r.2.mem ((c.tc : Thread Cert.AssignReferenceIdeal.nD Cert.AssignReferenceIdeal.τ).loc Cert.AssignReferenceIdeal.main_arg0) = m' ((c.tc : Thread Cert.AssignReferenceIdeal.nD Cert.AssignReferenceIdeal.τ).loc Cert.AssignReferenceIdeal.main_arg0)
          ∧ r.2.mem ((c.tc : Thread Cert.AssignReferenceIdeal.nD Cert.AssignReferenceIdeal.τ).loc Cert.AssignReferenceIdeal.main_arg1) = m' ((c.tc : Thread Cert.AssignReferenceIdeal.nD Cert.AssignReferenceIdeal.τ).loc Cert.AssignReferenceIdeal.main_arg1))

def preserves_Gather_GatherIdeal : Prop :=
  True

def algebraic_GatherIdeal_GatherReferenceIdeal [hGatherIdeal : Cert.GatherIdeal.Facts] [hGatherReferenceIdeal : Cert.GatherReferenceIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v1) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def bitexact_Gather_GatherReference [hGather : Cert.Gather.Facts] [hGatherReference : Cert.GatherReference.Facts] [hPre_in_range : Cert.Pre_in_range.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v2)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v2) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v1) = v0 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1))

def Claim : Prop :=
  ∃ (hKernelIdeal : Cert.KernelIdeal.Facts) (hReferenceIdeal : Cert.ReferenceIdeal.Facts) (hAssign : Cert.Assign.Facts) (hAssignIdeal : Cert.AssignIdeal.Facts) (hAssignReferenceIdeal : Cert.AssignReferenceIdeal.Facts) (hGather : Cert.Gather.Facts) (hGatherIdeal : Cert.GatherIdeal.Facts) (hGatherReferenceIdeal : Cert.GatherReferenceIdeal.Facts) (hGatherReference : Cert.GatherReference.Facts) (hPre_finite : Cert.Pre_finite.Facts) (hPre_in_range : Cert.Pre_in_range.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Assign (hAssign := hAssign)
    ∧ quiescent_AssignIdeal (hAssignIdeal := hAssignIdeal)
    ∧ quiescent_AssignIdeal_pre_finite (hAssignIdeal := hAssignIdeal) (hPre_finite := hPre_finite)
    ∧ quiescent_AssignReferenceIdeal (hAssignReferenceIdeal := hAssignReferenceIdeal)
    ∧ quiescent_AssignReferenceIdeal_pre_finite (hAssignReferenceIdeal := hAssignReferenceIdeal) (hPre_finite := hPre_finite)
    ∧ quiescent_Gather (hGather := hGather) (hPre_in_range := hPre_in_range)
    ∧ quiescent_GatherIdeal (hGatherIdeal := hGatherIdeal) (hPre_in_range := hPre_in_range)
    ∧ quiescent_GatherReferenceIdeal (hGatherReferenceIdeal := hGatherReferenceIdeal)
    ∧ quiescent_GatherReferenceIdeal_pre_in_range (hGatherReferenceIdeal := hGatherReferenceIdeal) (hPre_in_range := hPre_in_range)
    ∧ quiescent_GatherReference (hGatherReference := hGatherReference) (hPre_in_range := hPre_in_range)
    ∧ algebraic_KernelIdeal_ReferenceIdeal_pre_finite (hKernelIdeal := hKernelIdeal) (hReferenceIdeal := hReferenceIdeal) (hPre_finite := hPre_finite)
    ∧ preserves_Assign_AssignIdeal
    ∧ algebraic_AssignIdeal_AssignReferenceIdeal_pre_finite (hAssignIdeal := hAssignIdeal) (hAssignReferenceIdeal := hAssignReferenceIdeal) (hPre_finite := hPre_finite)
    ∧ preserves_Gather_GatherIdeal
    ∧ algebraic_GatherIdeal_GatherReferenceIdeal (hGatherIdeal := hGatherIdeal) (hGatherReferenceIdeal := hGatherReferenceIdeal) (hPre_in_range := hPre_in_range)
    ∧ bitexact_Gather_GatherReference (hGather := hGather) (hGatherReference := hGatherReference) (hPre_in_range := hPre_in_range)
-- ==== Pre_finite.lean ====
abbrev S8x576x64 : Shape := ⟨3, ![8, 576, 64]⟩
abbrev S1024x64 : Shape := ⟨2, ![1024, 64]⟩
abbrev S_ : Shape := ⟨0, ![]⟩

class Facts : Prop where
  bcast_S_S8x576x64 : S_.BroadcastsInDim S8x576x64 (![] : Fin 0 → Fin S8x576x64.rank)
  reducesTo_S8x576x64_S_d0_1_2 : S8x576x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S8x576x64 .f32) (main_arg1 : FVec F S1024x64 .f32) : IVec S_ 1 × IVec S_ 1 :=
  let main_v0 : FVec F S8x576x64 .f32 := Host.absf main_arg0
  let main_cst : FVec F S_ .f32 := constant S_ .f32 0x7F800000#32
  let main_v1 : FVec F S8x576x64 .f32 := broadcastInDim S8x576x64 ![] bcast_S_S8x576x64 main_cst
  let main_v2 : IVec S8x576x64 1 := cmpf .olt main_v0 main_v1
  let main_c : IVec S_ 1 := constantI S_ 1 1#1
  let main_v3 : IVec S_ 1 := (fun x v => Host.reduce IntOp.andi x v reducesTo_S8x576x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  (main_v3, main_v7)
-- ==== Pre_in_range.lean ====
abbrev S1024x64 : Shape := ⟨2, ![1024, 64]⟩
abbrev S4608 : Shape := ⟨1, ![4608]⟩
abbrev S_ : Shape := ⟨0, ![]⟩

class Facts : Prop where
  bcast_S_S4608 : S_.BroadcastsInDim S4608 (![] : Fin 0 → Fin S4608.rank)
  reducesTo_S4608_S_d0 : S4608.ReducesTo [0] S_
  h_S_ : 0 < S_.numel

variable [Facts]

def fn {F : FTy → Type} [FloatOps F] (main_arg0 : FVec F S1024x64 .f32) (main_arg1 : IVec S4608 32) : IVec S_ 1 × IVec S_ 1 :=
  let main_c : IVec S_ 32 := constantI S_ 32 0#32
  let main_v0 : IVec S4608 32 := broadcastInDim S4608 ![] bcast_S_S4608 main_c
  let main_v1 : IVec S4608 1 := cmpi .sge main_arg1 main_v0
  let main_c_0 : IVec S_ 1 := constantI S_ 1 1#1
  let main_v2 : IVec S_ 1 := (fun x v => Host.reduce IntOp.andi x v reducesTo_S4608_S_d0 h_S_) main_v1 main_c_0
  let main_c_1 : IVec S_ 32 := constantI S_ 32 1024#32
  let main_v3 : IVec S4608 32 := broadcastInDim S4608 ![] bcast_S_S4608 main_c_1
  let main_v4 : IVec S4608 1 := cmpi .slt main_arg1 main_v3
  let main_c_2 : IVec S_ 1 := constantI S_ 1 1#1
  let main_v5 : IVec S_ 1 := (fun x v => Host.reduce IntOp.andi x v reducesTo_S4608_S_d0 h_S_) main_v4 main_c_2
  (main_v2, main_v5)
-- ==== KernelIdeal.lean ====
abbrev S8x576x64 : Shape := ⟨3, ![8, 576, 64]⟩
abbrev S1024x64 : Shape := ⟨2, ![1024, 64]⟩
abbrev S4608x64 : Shape := ⟨2, ![4608, 64]⟩
abbrev S4608 : Shape := ⟨1, ![4608]⟩
abbrev S1x1 : Shape := ⟨2, ![1, 1]⟩
abbrev S1024 : Shape := ⟨1, ![1024]⟩
abbrev S4608x1024 : Shape := ⟨2, ![4608, 1024]⟩
abbrev S4608x1 : Shape := ⟨2, ![4608, 1]⟩
abbrev S1x1024 : Shape := ⟨2, ![1, 1024]⟩
abbrev S1x4608 : Shape := ⟨2, ![1, 4608]⟩
abbrev S1 : Shape := ⟨1, ![1]⟩
abbrev S_ : Shape := ⟨0, ![]⟩
abbrev S1024x128 : Shape := ⟨2, ![1024, 128]⟩
abbrev S8x576x128 : Shape := ⟨3, ![8, 576, 128]⟩
abbrev S288 : Shape := ⟨1, ![288]⟩
abbrev S288x128 : Shape := ⟨2, ![288, 128]⟩
abbrev S1x288x128 : Shape := ⟨3, ![1, 288, 128]⟩

abbrev nBuf : Table → Nat
  | .hbm => 11
  | .local .tc .vmem => 4
  | .local .scVector .vmem => 2
  | _ => 0

abbrev bufTy : (tb : Table) → Fin (nBuf tb) → BufTy
  | .hbm, ⟨0, _⟩ => ⟨S8x576x64, .f32⟩
  | .hbm, ⟨1, _⟩ => ⟨S1024x64, .f32⟩
  | .hbm, ⟨2, _⟩ => ⟨S4608x64, .f32⟩
  | .hbm, ⟨3, _⟩ => ⟨S4608, .i32⟩
  | .hbm, ⟨4, _⟩ => ⟨S1x1, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S8x576x128, .f32⟩
  | .hbm, ⟨9, _⟩ => ⟨S8x576x64, .f32⟩
  | .hbm, ⟨10, _⟩ => ⟨S_, .f32⟩
  | .local .tc .vmem, ⟨0, _⟩ => ⟨S4608x64, .f32⟩
  | .local .tc .vmem, ⟨1, _⟩ => ⟨S1024x64, .f32⟩
  | .local .tc .vmem, ⟨2, _⟩ => ⟨S4608, .i32⟩
  | .local .tc .vmem, ⟨3, _⟩ => ⟨S1x1, .f32⟩
  | .local .scVector .vmem, ⟨0, _⟩ => ⟨S288, .i32⟩
  | .local .scVector .vmem, ⟨1, _⟩ => ⟨S288x128, .f32⟩
  | _, _ => ⟨S8x576x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v2_scv : Ref sig .scVector := ⟨.hbm, 7, rfl⟩
abbrev main_v1_0_scv : Ref sig .scVector := ⟨.hbm, 3, rfl⟩
abbrev main_v3_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "loss_scale" => some ((5 / 1179648 : ℝ) : EReal)
  | _ => none

abbrev grid0 : Pipeline.Grid := .none

abbrev stage0_0 : Fin 1 → Memref sig .tc .vmem S4608x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![1, 16], ![false, false]⟩

def k1_off1 (i : grid1.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c288_i32 : BitVec 32 := 288#32
  let v2 : BitVec 32 := Scalar.muli v1 c288_i32
  ![v2.toNat]
def k1_off2 (i : grid1.Coords) : Fin 3 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32_3 : BitVec 32 := 0#32
  let v6 : BitVec 1 := Scalar.cmpi .sgt v1 c0_i32_3
  let v7 : BitVec 32 := Scalar.extui v6
  let c0_i32_4 : BitVec 32 := 0#32
  let v8 : BitVec 1 := Scalar.cmpi .slt v1 c0_i32_4
  let v9 : BitVec 32 := Scalar.extui v8
  let v10 : BitVec 32 := Scalar.subi v7 v9
  let c2_i32 : BitVec 32 := 2#32
  let c0_i32_5 : BitVec 32 := 0#32
  let v11 : BitVec 1 := Scalar.cmpi .sgt c2_i32 c0_i32_5
  let v12 : BitVec 32 := Scalar.extui v11
  let c0_i32_6 : BitVec 32 := 0#32
  let v13 : BitVec 1 := Scalar.cmpi .slt c2_i32 c0_i32_6
  let v14 : BitVec 32 := Scalar.extui v13
  let v15 : BitVec 32 := Scalar.subi v12 v14
  let v16 : BitVec 1 := Scalar.cmpi .ne v10 v15
  let v17 : BitVec 32 := Scalar.remsi v1 c2_i32
  let c0_i32_7 : BitVec 32 := 0#32
  let v18 : BitVec 1 := Scalar.cmpi .ne v17 c0_i32_7
  let v19 : BitVec 1 := Scalar.andi v16 v18
  let v5 : BitVec 32 := Scalar.divsi v1 c2_i32
  let c1_i32_8 : BitVec 32 := 1#32
  let v20 : BitVec 32 := Scalar.subi v5 c1_i32_8
  let v21 : BitVec 32 := Scalar.select v19 v20 v5
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v1 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let c288_i32_15 : BitVec 32 := 288#32
  let v32 : BitVec 32 := Scalar.muli v31 c288_i32_15
  let c0_i32_16_r1 : BitVec 32 := 0#32
  ![v21.toNat, v32.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x576x64 : Shape := ⟨3, ![8, 576, 64]⟩
abbrev S1024x64 : Shape := ⟨2, ![1024, 64]⟩
abbrev S4608x64 : Shape := ⟨2, ![4608, 64]⟩
abbrev S_ : Shape := ⟨0, ![]⟩
abbrev S4608 : Shape := ⟨1, ![4608]⟩
abbrev S4608x1 : Shape := ⟨2, ![4608, 1]⟩
abbrev S1024 : Shape := ⟨1, ![1024]⟩
abbrev S1x1024 : Shape := ⟨2, ![1, 1024]⟩
abbrev S4608x1024 : Shape := ⟨2, ![4608, 1024]⟩
abbrev S64x1024 : Shape := ⟨2, ![64, 1024]⟩
abbrev S1 : Shape := ⟨1, ![1]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x576x64, .f32⟩
  | .hbm, ⟨1, _⟩ => ⟨S1024x64, .f32⟩
  | .hbm, ⟨2, _⟩ => ⟨S4608x64, .f32⟩
  | .hbm, ⟨3, _⟩ => ⟨S4608x64, .f32⟩
  | .hbm, ⟨4, _⟩ => ⟨S_, .f32⟩
  | .hbm, ⟨5, _⟩ => ⟨S4608, .f32⟩
  | .hbm, ⟨6, _⟩ => ⟨S4608x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S4608x1024, .f32⟩
  | .hbm, ⟨12, _⟩ => ⟨S4608x1024, .f32⟩
  | .hbm, ⟨13, _⟩ => ⟨S4608x1024, .f32⟩
  | .hbm, ⟨14, _⟩ => ⟨S_, .f32⟩
  | .hbm, ⟨15, _⟩ => ⟨S4608x64, .f32⟩
  | .hbm, ⟨16, _⟩ => ⟨S4608x64, .f32⟩
  | .hbm, ⟨17, _⟩ => ⟨S64x1024, .f32⟩
  | .hbm, ⟨18, _⟩ => ⟨S4608x1024, .f32⟩
  | .hbm, ⟨19, _⟩ => ⟨S4608x1024, .f32⟩
  | .hbm, ⟨20, _⟩ => ⟨S4608x1024, .i32⟩
  | .hbm, ⟨21, _⟩ => ⟨S_, .f32⟩
  | .hbm, ⟨22, _⟩ => ⟨S_, .i32⟩
  | .hbm, ⟨23, _⟩ => ⟨S4608, .f32⟩
  | .hbm, ⟨24, _⟩ => ⟨S4608, .i32⟩
  | .hbm, ⟨25, _⟩ => ⟨S_, .i32⟩
  | .hbm, ⟨26, _⟩ => ⟨S4608, .i32⟩
  | .hbm, ⟨27, _⟩ => ⟨S4608, .i1⟩
  | .hbm, ⟨28, _⟩ => ⟨S_, .i32⟩
  | .hbm, ⟨29, _⟩ => ⟨S4608, .i32⟩
  | .hbm, ⟨30, _⟩ => ⟨S4608, .i32⟩
  | .hbm, ⟨31, _⟩ => ⟨S4608, .i32⟩
  | .hbm, ⟨32, _⟩ => ⟨S4608x1, .i32⟩
  | .hbm, ⟨33, _⟩ => ⟨S1, .i32⟩
  | .hbm, ⟨34, _⟩ => ⟨S_, .i32⟩
  | .hbm, ⟨35, _⟩ => ⟨S4608x1, .i32⟩
  | .hbm, ⟨36, _⟩ => ⟨S4608x1, .i1⟩
  | .hbm, ⟨37, _⟩ => ⟨S1x1, .i32⟩
  | .hbm, ⟨38, _⟩ => ⟨S4608x1, .i32⟩
  | .hbm, ⟨39, _⟩ => ⟨S4608x1, .i1⟩
  | .hbm, ⟨40, _⟩ => ⟨S4608x1, .i1⟩
  | .hbm, ⟨41, _⟩ => ⟨S_, .i1⟩
  | .hbm, ⟨42, _⟩ => ⟨S4608, .i1⟩
  | .hbm, ⟨43, _⟩ => ⟨S4608x64, .f32⟩
  | .hbm, ⟨44, _⟩ => ⟨S4608x64, .i1⟩
  | .hbm, ⟨45, _⟩ => ⟨S_, .f32⟩
  | .hbm, ⟨46, _⟩ => ⟨S4608x64, .f32⟩
  | .hbm, ⟨47, _⟩ => ⟨S4608x64, .f32⟩
  | .hbm, ⟨48, _⟩ => ⟨S8x576x64, .f32⟩
  | .hbm, ⟨49, _⟩ => ⟨S8x576x64, .f32⟩
  | .hbm, ⟨50, _⟩ => ⟨S8x576x64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8x576x64, .f32⟩
  | .hbm, ⟨56, _⟩ => ⟨S8x576x64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8x576x64, .f32⟩
  | .hbm, ⟨65, _⟩ => ⟨S8x576x64, .f32⟩
  | _, _ => ⟨S8x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩

abbrev nD : Nat := 1
abbrev τ : Topo := Topo.v7x

variable {F : FTy → Type} [FloatOps F]
-- ==== Assign.lean ====
abbrev S8x576x64 : Shape := ⟨3, ![8, 576, 64]⟩
abbrev S1024x64 : Shape := ⟨2, ![1024, 64]⟩
abbrev S4608x64 : Shape := ⟨2, ![4608, 64]⟩
abbrev S4608 : Shape := ⟨1, ![4608]⟩
abbrev S1x1 : Shape := ⟨2, ![1, 1]⟩
abbrev S1024 : Shape := ⟨1, ![1024]⟩
abbrev S4608x1024 : Shape := ⟨2, ![4608, 1024]⟩
abbrev S4608x1 : Shape := ⟨2, ![4608, 1]⟩
abbrev S1x1024 : Shape := ⟨2, ![1, 1024]⟩
abbrev S1x4608 : Shape := ⟨2, ![1, 4608]⟩
abbrev S1 : Shape := ⟨1, ![1]⟩

abbrev nBuf : Space → Nat
  | .hbm => 5
  | .vmem => 4
  | .smem => 0
  | _ => 0

abbrev bufTy : (tb : Table) → Fin (tcTables nBuf tb) → BufTy
  | .hbm, ⟨0, _⟩ => ⟨S8x576x64, .f32⟩
  | .hbm, ⟨1, _⟩ => ⟨S1024x64, .f32⟩
  | .hbm, ⟨2, _⟩ => ⟨S4608x64, .f32⟩
  | .hbm, ⟨3, _⟩ => ⟨S4608, .i32⟩
  | .hbm, ⟨4, _⟩ => ⟨S1x1, .f32⟩
  | .local _ .vmem, ⟨0, _⟩ => ⟨S4608x64, .f32⟩
  | .local _ .vmem, ⟨1, _⟩ => ⟨S1024x64, .f32⟩
  | .local _ .vmem, ⟨2, _⟩ => ⟨S4608, .i32⟩
  | .local _ .vmem, ⟨3, _⟩ => ⟨S1x1, .f32⟩
  | _, _ => ⟨S8x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4608x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AssignIdeal.lean ====
variable {F : FTy → Type} [FloatOps F] [Named F]
def κ : String → Option EReal := fun
  | "loss_scale" => some ((5 / 1179648 : ℝ) : EReal)
  | _ => none
-- ==== AssignReferenceIdeal.lean ====
abbrev S8x576x64 : Shape := ⟨3, ![8, 576, 64]⟩
abbrev S1024x64 : Shape := ⟨2, ![1024, 64]⟩
abbrev S4608x64 : Shape := ⟨2, ![4608, 64]⟩
abbrev S_ : Shape := ⟨0, ![]⟩
abbrev S4608 : Shape := ⟨1, ![4608]⟩
abbrev S4608x1 : Shape := ⟨2, ![4608, 1]⟩
abbrev S1024 : Shape := ⟨1, ![1024]⟩
abbrev S1x1024 : Shape := ⟨2, ![1, 1024]⟩
abbrev S4608x1024 : Shape := ⟨2, ![4608, 1024]⟩
abbrev S64x1024 : Shape := ⟨2, ![64, 1024]⟩
abbrev S1 : Shape := ⟨1, ![1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S8x576x64, .f32⟩
  | .hbm, ⟨1, _⟩ => ⟨S1024x64, .f32⟩
  | .hbm, ⟨2, _⟩ => ⟨S4608x64, .f32⟩
  | .hbm, ⟨3, _⟩ => ⟨S4608x64, .f32⟩
  | .hbm, ⟨4, _⟩ => ⟨S_, .f32⟩
  | .hbm, ⟨5, _⟩ => ⟨S4608, .f32⟩
  | .hbm, ⟨6, _⟩ => ⟨S4608x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S4608x1024, .f32⟩
  | .hbm, ⟨12, _⟩ => ⟨S4608x1024, .f32⟩
  | .hbm, ⟨13, _⟩ => ⟨S4608x1024, .f32⟩
  | .hbm, ⟨14, _⟩ => ⟨S_, .f32⟩
  | .hbm, ⟨15, _⟩ => ⟨S4608x64, .f32⟩
  | .hbm, ⟨16, _⟩ => ⟨S4608x64, .f32⟩
  | .hbm, ⟨17, _⟩ => ⟨S64x1024, .f32⟩
  | .hbm, ⟨18, _⟩ => ⟨S4608x1024, .f32⟩
  | .hbm, ⟨19, _⟩ => ⟨S4608x1024, .f32⟩
  | .hbm, ⟨20, _⟩ => ⟨S4608x1024, .i32⟩
  | .hbm, ⟨21, _⟩ => ⟨S_, .f32⟩
  | .hbm, ⟨22, _⟩ => ⟨S_, .i32⟩
  | .hbm, ⟨23, _⟩ => ⟨S4608, .f32⟩
  | .hbm, ⟨24, _⟩ => ⟨S4608, .i32⟩
  | .hbm, ⟨25, _⟩ => ⟨S4608x64, .f32⟩
  | .hbm, ⟨26, _⟩ => ⟨S4608x64, .f32⟩
  | .hbm, ⟨27, _⟩ => ⟨S_, .f32⟩
  | .hbm, ⟨28, _⟩ => ⟨S4608, .f32⟩
  | .hbm, ⟨29, _⟩ => ⟨S4608x1, .f32⟩
  | .hbm, ⟨30, _⟩ => ⟨S1024x64, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4608x1024, .f32⟩
  | .hbm, ⟨35, _⟩ => ⟨S4608x1024, .f32⟩
  | .hbm, ⟨36, _⟩ => ⟨S4608x1024, .f32⟩
  | .hbm, ⟨37, _⟩ => ⟨S_, .f32⟩
  | .hbm, ⟨38, _⟩ => ⟨S4608x64, .f32⟩
  | .hbm, ⟨39, _⟩ => ⟨S4608x64, .f32⟩
  | .hbm, ⟨40, _⟩ => ⟨S64x1024, .f32⟩
  | .hbm, ⟨41, _⟩ => ⟨S4608x1024, .f32⟩
  | .hbm, ⟨42, _⟩ => ⟨S4608x1024, .f32⟩
  | .hbm, ⟨43, _⟩ => ⟨S4608x1024, .i32⟩
  | .hbm, ⟨44, _⟩ => ⟨S_, .f32⟩
  | .hbm, ⟨45, _⟩ => ⟨S_, .i32⟩
  | .hbm, ⟨46, _⟩ => ⟨S4608, .f32⟩
  | .hbm, ⟨47, _⟩ => ⟨S4608, .i32⟩
  | .hbm, ⟨48, _⟩ => ⟨S_, .i32⟩
  | .hbm, ⟨49, _⟩ => ⟨S4608, .i32⟩
  | .hbm, ⟨50, _⟩ => ⟨S4608, .i1⟩
  | .hbm, ⟨51, _⟩ => ⟨S_, .i32⟩
  | .hbm, ⟨52, _⟩ => ⟨S4608, .i32⟩
  | .hbm, ⟨53, _⟩ => ⟨S4608, .i32⟩
  | .hbm, ⟨54, _⟩ => ⟨S4608, .i32⟩
  | .hbm, ⟨55, _⟩ => ⟨S4608x1, .i32⟩
  | .hbm, ⟨56, _⟩ => ⟨S1, .i32⟩
  | .hbm, ⟨57, _⟩ => ⟨S_, .i32⟩
  | .hbm, ⟨58, _⟩ => ⟨S4608x1, .i32⟩
  | .hbm, ⟨59, _⟩ => ⟨S4608x1, .i1⟩
  | .hbm, ⟨60, _⟩ => ⟨S1x1, .i32⟩
  | .hbm, ⟨61, _⟩ => ⟨S4608x1, .i32⟩
  | .hbm, ⟨62, _⟩ => ⟨S4608x1, .i1⟩
  | .hbm, ⟨63, _⟩ => ⟨S4608x1, .i1⟩
  | .hbm, ⟨64, _⟩ => ⟨S_, .i1⟩
  | .hbm, ⟨65, _⟩ => ⟨S4608, .i1⟩
  | .hbm, ⟨66, _⟩ => ⟨S4608x64, .f32⟩
  | .hbm, ⟨67, _⟩ => ⟨S4608x64, .i1⟩
  | .hbm, ⟨68, _⟩ => ⟨S_, .f32⟩
  | .hbm, ⟨69, _⟩ => ⟨S4608x64, .f32⟩
  | .hbm, ⟨70, _⟩ => ⟨S4608x64, .f32⟩
  | .hbm, ⟨71, _⟩ => ⟨S8x576x64, .f32⟩
  | .hbm, ⟨72, _⟩ => ⟨S8x576x64, .f32⟩
  | .hbm, ⟨73, _⟩ => ⟨S8x576x64, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8x576x64, .f32⟩
  | .hbm, ⟨79, _⟩ => ⟨S8x576x64, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8x576x64, .f32⟩
  | .hbm, ⟨88, _⟩ => ⟨S8x576x64, .f32⟩
  | .hbm, ⟨89, _⟩ => ⟨S1x1, .f32⟩
  | _, _ => ⟨S8x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call1_v0 : Ref sig .tc := ⟨.hbm, 43, rfl⟩
abbrev main_call1_cst : Ref sig .tc := ⟨.hbm, 44, rfl⟩
abbrev main_call1_c : Ref sig .tc := ⟨.hbm, 45, rfl⟩
abbrev main_call1_v1_0 : Ref sig .tc := ⟨.hbm, 46, rfl⟩
abbrev main_v31 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_5 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_7 : Ref sig .tc := ⟨.hbm, 80, rfl⟩
abbrev main_v40 : Ref sig .tc := ⟨.hbm, 81, rfl⟩
abbrev main_cst_8 : Ref sig .tc := ⟨.hbm, 82, rfl⟩
abbrev main_v41 : Ref sig .tc := ⟨.hbm, 83, rfl⟩
abbrev main_cst_9 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩

abbrev nD : Nat := 1
abbrev τ : Topo := Topo.v7x

variable {F : FTy → Type} [FloatOps F]
-- ==== Gather.lean ====
abbrev S1024x64 : Shape := ⟨2, ![1024, 64]⟩
abbrev S4608 : Shape := ⟨1, ![4608]⟩
abbrev S_ : Shape := ⟨0, ![]⟩
abbrev S1024x128 : Shape := ⟨2, ![1024, 128]⟩
abbrev S8x576x128 : Shape := ⟨3, ![8, 576, 128]⟩
abbrev S288 : Shape := ⟨1, ![288]⟩
abbrev S288x128 : Shape := ⟨2, ![288, 128]⟩
abbrev S1x288x128 : Shape := ⟨3, ![1, 288, 128]⟩
abbrev S8x576x64 : Shape := ⟨3, ![8, 576, 64]⟩

abbrev nBuf : Table → Nat
  | .hbm => 7
  | .local .scVector .vmem => 2
  | _ => 0

abbrev bufTy : (tb : Table) → Fin (nBuf tb) → BufTy
  | .hbm, ⟨0, _⟩ => ⟨S1024x64, .f32⟩
  | .hbm, ⟨1, _⟩ => ⟨S4608, .i32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S8x576x128, .f32⟩
  | .hbm, ⟨6, _⟩ => ⟨S8x576x64, .f32⟩
  | .local .scVector .vmem, ⟨0, _⟩ => ⟨S288, .i32⟩
  | .local .scVector .vmem, ⟨1, _⟩ => ⟨S288x128, .f32⟩
  | _, _ => ⟨S1024x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c288_i32 : BitVec 32 := 288#32
  let v2 : BitVec 32 := Scalar.muli v1 c288_i32
  ![v2.toNat]
def k0_off2 (i : grid0.Coords) : Fin 3 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32_3 : BitVec 32 := 0#32
  let v6 : BitVec 1 := Scalar.cmpi .sgt v1 c0_i32_3
  let v7 : BitVec 32 := Scalar.extui v6
  let c0_i32_4 : BitVec 32 := 0#32
  let v8 : BitVec 1 := Scalar.cmpi .slt v1 c0_i32_4
  let v9 : BitVec 32 := Scalar.extui v8
  let v10 : BitVec 32 := Scalar.subi v7 v9
  let c2_i32 : BitVec 32 := 2#32
  let c0_i32_5 : BitVec 32 := 0#32
  let v11 : BitVec 1 := Scalar.cmpi .sgt c2_i32 c0_i32_5
  let v12 : BitVec 32 := Scalar.extui v11
  let c0_i32_6 : BitVec 32 := 0#32
  let v13 : BitVec 1 := Scalar.cmpi .slt c2_i32 c0_i32_6
  let v14 : BitVec 32 := Scalar.extui v13
  let v15 : BitVec 32 := Scalar.subi v12 v14
  let v16 : BitVec 1 := Scalar.cmpi .ne v10 v15
  let v17 : BitVec 32 := Scalar.remsi v1 c2_i32
  let c0_i32_7 : BitVec 32 := 0#32
  let v18 : BitVec 1 := Scalar.cmpi .ne v17 c0_i32_7
  let v19 : BitVec 1 := Scalar.andi v16 v18
  let v5 : BitVec 32 := Scalar.divsi v1 c2_i32
  let c1_i32_8 : BitVec 32 := 1#32
  let v20 : BitVec 32 := Scalar.subi v5 c1_i32_8
  let v21 : BitVec 32 := Scalar.select v19 v20 v5
  let c2_i32_9 : BitVec 32 := 2#32
  let c0_i32_10 : BitVec 32 := 0#32
  let v22 : BitVec 1 := Scalar.cmpi .eq c2_i32_9 c0_i32_10
  let c1_i32_11 : BitVec 32 := 1#32
  let v23 : BitVec 32 := Scalar.select v22 c1_i32_11 c2_i32_9
  let v24 : BitVec 32 := Scalar.remsi v1 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let c288_i32_15 : BitVec 32 := 288#32
  let v32 : BitVec 32 := Scalar.muli v31 c288_i32_15
  let c0_i32_16_r1 : BitVec 32 := 0#32
  ![v21.toNat, v32.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReference.lean ====
abbrev S1024x64 : Shape := ⟨2, ![1024, 64]⟩
abbrev S4608 : Shape := ⟨1, ![4608]⟩
abbrev S_ : Shape := ⟨0, ![]⟩
abbrev S4608x1 : Shape := ⟨2, ![4608, 1]⟩
abbrev S1 : Shape := ⟨1, ![1]⟩
abbrev S1x1 : Shape := ⟨2, ![1, 1]⟩
abbrev S4608x64 : Shape := ⟨2, ![4608, 64]⟩
abbrev S8x576x64 : Shape := ⟨3, ![8, 576, 64]⟩

abbrev nBuf : Space → Nat
  | .hbm => 26
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S4608, .i32⟩
  | .hbm, ⟨2, _⟩ => ⟨S_, .i32⟩
  | .hbm, ⟨3, _⟩ => ⟨S4608, .i32⟩
  | .hbm, ⟨4, _⟩ => ⟨S4608, .i1⟩
  | .hbm, ⟨5, _⟩ => ⟨S_, .i32⟩
  | .hbm, ⟨6, _⟩ => ⟨S4608, .i32⟩
  | .hbm, ⟨7, _⟩ => ⟨S4608, .i32⟩
  | .hbm, ⟨8, _⟩ => ⟨S4608, .i32⟩
  | .hbm, ⟨9, _⟩ => ⟨S4608x1, .i32⟩
  | .hbm, ⟨10, _⟩ => ⟨S1, .i32⟩
  | .hbm, ⟨11, _⟩ => ⟨S_, .i32⟩
  | .hbm, ⟨12, _⟩ => ⟨S4608x1, .i32⟩
  | .hbm, ⟨13, _⟩ => ⟨S4608x1, .i1⟩
  | .hbm, ⟨14, _⟩ => ⟨S1x1, .i32⟩
  | .hbm, ⟨15, _⟩ => ⟨S4608x1, .i32⟩
  | .hbm, ⟨16, _⟩ => ⟨S4608x1, .i1⟩
  | .hbm, ⟨17, _⟩ => ⟨S4608x1, .i1⟩
  | .hbm, ⟨18, _⟩ => ⟨S_, .i1⟩
  | .hbm, ⟨19, _⟩ => ⟨S4608, .i1⟩
  | .hbm, ⟨20, _⟩ => ⟨S4608x64, .f32⟩
  | .hbm, ⟨21, _⟩ => ⟨S4608x64, .i1⟩
  | .hbm, ⟨22, _⟩ => ⟨S_, .f32⟩
  | .hbm, ⟨23, _⟩ => ⟨S4608x64, .f32⟩
  | .hbm, ⟨24, _⟩ => ⟨S4608x64, .f32⟩
  | .hbm, ⟨25, _⟩ => ⟨S8x576x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Tile.lean ====
/-
  ONE VECTOR SUBCORE'S TASK, once for every program that runs it. The task copies its 288 words of the index list from
  HBM into its index scratch, gathers the 288 rows of the table those words name into its row scratch, and copies the
  row scratch out to its block of the result. Each of the three transfers is waited for before the next begins.

  The task is stated over ANY memory signature, any two offset vectors (where its words of the list and its block of the
  result start) and any float values (`prog`); each printed kernel function IS it, by unfolding. `run` is its run: from
  the words of the list, a share of the table, the block of the result, the two scratches and the three semaphores at
  zero, it gives all of them back, the block holding the rows the words name (`landed`). It asks that the words be rows of the table.
-/
module

public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Tactic

@[expose] public section

noncomputable section

namespace Cert.Proof.Tile

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The shapes -/

abbrev STable : Shape := ⟨2, ![1024, 128]⟩
abbrev SList : Shape := ⟨1, ![4608]⟩
abbrev SOut : Shape := ⟨3, ![8, 576, 128]⟩
abbrev SWords : Shape := ⟨1, ![288]⟩
abbrev SRows : Shape := ⟨2, ![288, 128]⟩
abbrev SBlock : Shape := ⟨3, ![1, 288, 128]⟩

theorem inb_table : ∀ a, (![0, 0] : Fin 2 → ℕ) a + STable.size a ≤ STable.size a := by decide
theorem gathers : STable.Gathers 0 SRows := by decide
theorem squeezes : SBlock.Squeezes SRows := by decide

/-! ## The task -/

section Prog

variable {nD : ℕ} {τ : Topo} {sig : RefSig} {Λ : Labels} {F : FTy → Type} [FloatOps F]

variable (x : Memref sig .scVector .hbm STable .f32) (i : Memref sig .scVector .hbm SList .i32)
  (o : Memref sig .scVector .hbm SOut .f32) (l : Memref sig .scVector .vmem SWords .i32) (hl : l.IsWhole)
  (r : Memref sig .scVector .vmem SRows .f32) (hr : r.IsWhole) (sA sB sC : DmaSem sig)
  {off1 : Fin 1 → ℕ} (h1 : ∀ a, off1 a + SWords.size a ≤ SList.size a)
  {off2 : Fin 3 → ℕ} (h2 : ∀ a, off2 a + SBlock.size a ≤ SOut.size a)

/-- The task's words of the list, its block of the result (as 288 rows), and the whole table, as the task addresses them. -/
abbrev words : Memref sig .scVector .hbm SWords .i32 := i.slice (Rect.unit (s := SList) off1 SWords.size h1) (fun _ => rfl)
abbrev block : Memref sig .scVector .hbm SRows .f32 :=
  (o.slice (Rect.unit (s := SOut) off2 SBlock.size h2) (fun _ => rfl)).squeeze SRows squeezes
abbrev table : Memref sig .scVector .hbm STable .f32 := x.slice (Rect.unit (s := STable) ![0, 0] STable.size inb_table) (fun _ => rfl)

/-- The task's six operations. -/
def prog (c : Fin τ.nSC) (s : Fin τ.nSub) : Prog (TpuEff nD τ sig (Elt F) Λ (.scVector c s)) PUnit := do
  Prog.lift (.enqueueDma (words i h1) (.here l) (.dma sA) (View.wordExact_bits rfl) hl.wordExact ⟨Or.inl rfl, trivial⟩)
  Prog.lift (.waitDma2 sA (words i h1) l (View.wordExact_bits rfl) hl.wordExact)
  SparseCore.enqueueIndirectGather rfl (table x) r gathers l rfl sB (View.wordExact_bits rfl) rfl (Or.inl rfl)
  SparseCore.waitIndirectGather sB (table x) r (View.wordExact_bits rfl) hr.wordExact
  Prog.lift (.enqueueDma r (.here (block o h2)) (.dma sC) hr.wordExact ((View.wordExact_bits rfl).reshape _ _) ⟨Or.inl rfl, trivial⟩)
  Prog.lift (.waitDma2 sC r (block o h2) hr.wordExact ((View.wordExact_bits rfl).reshape _ _))
  pure ⟨⟩

end Prog

/-! ## Its run -/

section Run

variable {nD : ℕ} {τ : Topo} {sig : RefSig} {Λ : Labels} {F : FTy → Type} [FloatOps F]
variable {defs : Defs nD τ sig (Elt F) Λ} {𝒱₀ : Variants}

abbrev UU (nD : ℕ) (τ : Topo) (sig : RefSig) : Type := URounds (GSem nD τ sig) ℕ × (URounds (GSem nD τ sig) Unit × Counters)

local notation "𝕄" => MT nD τ sig (HIx 1) (Elt F) ℕ (UU nD τ sig) ℕ

variable (d : Dev nD) (c : Fin τ.nSC) (s : Fin τ.nSub)
variable (x : Memref sig .scVector .hbm STable .f32) (i : Memref sig .scVector .hbm SList .i32)
  (o : Memref sig .scVector .hbm SOut .f32) (l : Memref sig .scVector .vmem SWords .i32) (hl : l.IsWhole)
  (r : Memref sig .scVector .vmem SRows .f32) (hr : r.IsWhole) (sA sB sC : DmaSem sig)
  {off1 : Fin 1 → ℕ} (h1 : ∀ a, off1 a + SWords.size a ≤ SList.size a)
  {off2 : Fin 3 → ℕ} (h2 : ∀ a, off2 a + SBlock.size a ≤ SOut.size a)

/-- What the task leaves in its 288 rows: row `k` of it is the row of the table its `k`-th word names. -/
abbrev landed (fx : Buf (Elt F) ((table x).view.loc (V d c s))) (fi : Buf (Elt F) ((words i h1).view.loc (V d c s)))
    (hin : ∀ j, ((words i h1).view.read (Elt F) fi j).toNat < STable.size gathers.axis) : SRows.Idx → Elt F .f32 :=
  SparseCore.gatherPayload gathers ((table x).view.read (Elt F) fx) (SparseCore.rows ((words i h1).view.read (Elt F) fi) rfl hin)

/-- Two lists of equal words name equal rows. -/
theorem rows_congr {f g : SWords.Idx → Elt F .i32} (e : f = g) (hf : ∀ j, (f j).toNat < STable.size gathers.axis)
    (hg : ∀ j, (g j).toNat < STable.size gathers.axis) :
    SparseCore.rows (F := F) f (rfl : SWords.numel = SRows.size gathers.axis') hf = SparseCore.rows g rfl hg := by subst e; rfl

set_option maxHeartbeats 4000000 in
/-- The task's run. -/
theorem run {O : CellTallies nD τ sig (HIx 1)} {W : Waits sig (HIx 1)} (q : PosShare TreeShare)
    (fx : Buf (Elt F) ((table x).view.loc (V d c s))) (fi : Buf (Elt F) ((words i h1).view.loc (V d c s)))
    (fo : Buf (Elt F) ((block o h2).view.loc (V d c s)))
    (fl : Buf (Elt F) (l.view.loc (V d c s))) (fr : Buf (Elt F) (r.view.loc (V d c s)))
    (hin : ∀ j, ((words i h1).view.read (Elt F) fi j).toNat < STable.size gathers.axis)
    (hN : ∑ j, (r.slice (SRows.rowRect gathers.axis' j) (SRows.stride_rowRect gathers.axis' j)).view.dmaCredit = r.view.dmaCredit) :
    iprop(Transfers.MayWaits (V d c s) (default : HIx 1) O
        ∗ ((words i h1).view.loc (V d c s) ↦[(words i h1).view.set]{fullShare} fi)
        ∗ ((table x).view.loc (V d c s) ↦[(table x).view.set]{q} fx)
        ∗ ((block o h2).view.loc (V d c s) ↦[(block o h2).view.set]{fullShare} fo)
        ∗ (l.view.loc (V d c s) ↦[l.view.set]{fullShare} fl) ∗ (r.view.loc (V d c s) ↦[r.view.set]{fullShare} fr)
        ∗ semVal (V d c s, .dma sA) 0 ∗ semVal (V d c s, .dma sB) 0 ∗ semVal (V d c s, .dma sC) 0
        ∗ owes (V d c s) O W)
      ⊢ (wp frame (wpE defs 𝒱₀ (V d c s) none) Set.univ (prog x i o l hl r hr sA sB sC h1 h2 c s)
          fun _ => iprop(((words i h1).view.loc (V d c s) ↦[(words i h1).view.set]{fullShare} fi)
            ∗ ((table x).view.loc (V d c s) ↦[(table x).view.set]{q} fx)
            ∗ ((block o h2).view.loc (V d c s) ↦[(block o h2).view.set]{fullShare}
                (block o h2).view.write (Elt F) fo (landed d c s x i h1 fx fi hin) Finset.univ)
            ∗ (∃ f, l.view.loc (V d c s) ↦[l.view.set]{fullShare} f) ∗ (∃ f, r.view.loc (V d c s) ↦[r.view.set]{fullShare} f)
            ∗ semVal (V d c s, .dma sA) 0 ∗ semVal (V d c s, .dma sB) 0 ∗ semVal (V d c s, .dma sC) 0
            ∗ ∃ W', ⌜∀ p ∈ W', p ∈ W ∨ p.2 = none⌝ ∗ owes (V d c s) O W') : sProp 𝕄) := by
  unfold prog
  have hA : 0 < l.view.amount (SemLoc.dma sA) := View.dmaCredit_pos _ (by decide)
  have hC : 0 < (block o h2).view.amount (SemLoc.dma sC) := View.dmaCredit_pos _ (by decide)
  iintro ⟨#Hmw, Hi, Hx, Ho, Hl, Hr, HsemA, HsemB, HsemC, HO⟩
  sl_exec
  -- the index scratch now reads as the task's words of the list
  have hl1 : l.view.read (Elt F) (l.view.writes (Elt F) fl [⟨Rect.whole SWords, run.sl.dma0 d c s i h1 fi⟩])
      = (words i h1).view.read (Elt F) fi := View.read_writes_whole _ _ _
  have hin' : ∀ j, (l.view.read (Elt F) (l.view.writes (Elt F) fl [⟨Rect.whole SWords, run.sl.dma0 d c s i h1 fi⟩]) j).toNat
      < STable.size gathers.axis := fun j => by rw [hl1]; exact hin j
  iapply (SparseCore.wp_indirectGatherLocal countersEmb 𝒱₀ (V d c s) none (hg := gathers) (default : HIx 1)
      r.view.dmaCredit hN (by decide) hin') $$ [Hx Hr Hl HsemB]
  · isplitl [Hx]; · iexact Hx
    isplitl [Hr]; · iexact Hr
    isplitl [Hl]; · iexact Hl
    iexact HsemB
  iintro Hfl
  sl_exec
  iapply (Transfers.wp_waitLocalO countersEmb 𝒱₀ (V d c s) none (default : HIx 1) (rfl : r.view.dmaCredit = _)) $$ [Hfl HO]
  · isplitl [Hfl]; · iexact Hfl
    isplitl [HO]; · iexact HO
    iapply (Transfers.MayWaits.elim (SemLoc.dma sB)) $$ Hmw
  iintro ⟨⟨Hr, Hx, Hl⟩, HsemB, HO⟩
  sl_exec
  -- what the copy out landed in the block: the rows the words name
  have hpay : run.sl.dma0_1 d c s x i l r h1 fx fi fl fr hin' = landed d c s x i h1 fx fi hin := by
    have e : run.sl.dma0_1 d c s x i l r h1 fx fi fl fr hin'
        = SparseCore.gatherPayload gathers ((table x).view.read (Elt F) fx)
            (SparseCore.rows (l.view.read (Elt F) (l.view.writes (Elt F) fl [⟨Rect.whole SWords, run.sl.dma0 d c s i h1 fi⟩])) rfl hin') :=
      View.read_write_univ _ _
    exact e.trans (congrArg _ (rows_congr hl1 hin' hin))
  have hblk : (block o h2).view.writes (Elt F) fo [⟨Rect.whole SRows, run.sl.dma0_1 d c s x i l r h1 fx fi fl fr hin'⟩]
      = (block o h2).view.write (Elt F) fo (landed d c s x i h1 fx fi hin) Finset.univ := by
    rw [hpay]; exact (View.write_univ_eq_writes_whole (block o h2).view fo [] _).symm
  sl_step
  isplitl [Hi]; · iexact Hi
  isplitl [Hx]; · iexact Hx
  isplitl [Ho]; · rw [← hblk]; iexact Ho
  isplitl [Hl]; · iexists _; iexact Hl
  isplitl [Hr]; · iexists _; iexact Hr
  isplitl [HsemA]; · iexact HsemA
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Run

end Cert.Proof.Tile

end
-- ==== Proof.Blocks.lean ====
/-
  THE SIXTEEN TASKS TOGETHER. Task `k` takes words `288 k … 288 k + 287` of the list and the half `k % 2` of batch
  `k / 2` of the result. The words and the blocks of the sixteen tasks partition the list and the result; and what the
  tasks leave is ONE array (`gatherOut`): its row `(b, s)` is the row of the table that word `576 b + s` names.
-/
module

public import proofs.«01_k».proof.Proof.Tile
public import Idealize.ShloMosaic.Lib.ValueLayout

@[expose] public section

noncomputable section

namespace Cert.Proof.Tile

open Idealize.ShloMosaic
open Idealize.ShloMosaic.ValueIdx
open Idealize.ShloMosaic.SparseCore (S V T)

/-! ## The partition -/

/-- Where task `k`'s words and its block start. -/
abbrev wordsOff (k : Fin 16) : Fin 1 → ℕ := ![288 * k.val]
abbrev blockOff (k : Fin 16) : Fin 3 → ℕ := ![k.val / 2, 288 * (k.val % 2), 0]

theorem wordsOff_inb (k : Fin 16) : ∀ a, wordsOff k a + SWords.size a ≤ SList.size a := by revert k; decide
theorem blockOff_inb (k : Fin 16) : ∀ a, blockOff k a + SBlock.size a ≤ SOut.size a := by revert k; decide

abbrev wordsSet (k : Fin 16) : Finset SList.Idx := (Rect.unit (s := SList) (wordsOff k) SWords.size (wordsOff_inb k)).set
abbrev blockSet (k : Fin 16) : Finset SOut.Idx := (Rect.unit (s := SOut) (blockOff k) SBlock.size (blockOff_inb k)).set

theorem mem_wordsSet {k : Fin 16} {p : SList.Idx} : p ∈ wordsSet k ↔ 288 * k.val ≤ (p 0).val ∧ (p 0).val < 288 * k.val + 288 := by
  rw [Rect.mem_set_unit]
  exact ⟨fun h => h 0, fun h a => match a with | 0 => h⟩

theorem mem_blockSet {k : Fin 16} {y : SOut.Idx} :
    y ∈ blockSet k ↔ (y 0).val = k.val / 2 ∧ 288 * (k.val % 2) ≤ (y 1).val ∧ (y 1).val < 288 * (k.val % 2) + 288 := by
  rw [Rect.mem_set_unit]
  have h2 : (y 2).val < 128 := (y 2).isLt
  constructor
  · intro h
    have h0 : k.val / 2 ≤ (y 0).val ∧ (y 0).val < k.val / 2 + 1 := h 0
    exact ⟨by omega, h 1⟩
  · rintro ⟨h0, h1⟩ a
    match a with
    | 0 => exact (show k.val / 2 ≤ (y 0).val ∧ (y 0).val < k.val / 2 + 1 by omega)
    | 1 => exact h1
    | 2 => exact (show 0 ≤ (y 2).val ∧ (y 2).val < 0 + 128 by omega)

theorem words_disjoint : ∀ i ∈ (Finset.univ : Finset (Fin 16)), ∀ j ∈ (Finset.univ : Finset (Fin 16)), i ≠ j → Disjoint (wordsSet i) (wordsSet j) :=
  fun i _ j _ h => Finset.disjoint_left.mpr fun p hi hj => h (Fin.ext (by rw [mem_wordsSet] at hi hj; omega))

theorem blocks_disjoint : ∀ i ∈ (Finset.univ : Finset (Fin 16)), ∀ j ∈ (Finset.univ : Finset (Fin 16)), i ≠ j → Disjoint (blockSet i) (blockSet j) :=
  fun i _ j _ h => Finset.disjoint_left.mpr fun p hi hj => h (Fin.ext (by rw [mem_blockSet] at hi hj; omega))

theorem words_cover : (Finset.univ : Finset (Fin 16)).biUnion wordsSet = Finset.univ := by
  ext p
  have hp : (p 0).val < 4608 := (p 0).isLt
  simp only [Finset.mem_biUnion, Finset.mem_univ, true_and, iff_true]
  exact ⟨⟨(p 0).val / 288, by omega⟩, by rw [mem_wordsSet]; dsimp only; omega⟩

theorem blocks_cover : (Finset.univ : Finset (Fin 16)).biUnion blockSet = Finset.univ := by
  ext y
  have h0 : (y 0).val < 8 := (y 0).isLt
  have h1 : (y 1).val < 576 := (y 1).isLt
  simp only [Finset.mem_biUnion, Finset.mem_univ, true_and, iff_true]
  exact ⟨⟨2 * (y 0).val + (y 1).val / 288, by omega⟩, by rw [mem_blockSet]; dsimp only; omega⟩

/-! ## The value -/

/-- The row of the table that entry `(b, s)` of the result takes: what word `576 b + s` names. -/
def rowAt (idx : SList.Idx → BitVec 32) (b : Fin 8) (s : Fin 576) : Fin 1024 :=
  ⟨(idx (ix1 (⟨576 * b.val + s.val, by omega⟩ : Fin 4608))).toNat % 1024, Nat.mod_lt _ (by decide)⟩

/-- The gathered array. -/
def gatherOut {α : Type} (tab : STable.Idx → α) (idx : SList.Idx → BitVec 32) : SOut.Idx → α :=
  fun y => tab (ix2 (rowAt idx (y 0) (y 1)) (y 2))

/-- A word below 1024 is its own remainder. -/
theorem rowAt_val {idx : SList.Idx → BitVec 32} {b : Fin 8} {s : Fin 576} {p : SList.Idx} (hp : (p 0).val = 576 * b.val + s.val)
    (h : (idx p).toNat < 1024) : (rowAt idx b s).val = (idx p).toNat := by
  have e : p = ix1 (⟨576 * b.val + s.val, by omega⟩ : Fin 4608) := (eq_ix1 p).trans (congrArg ix1 (Fin.ext hp))
  show (idx (ix1 (⟨576 * b.val + s.val, by omega⟩ : Fin 4608))).toNat % 1024 = _
  rw [← e]
  exact Nat.mod_eq_of_lt h

section Value

variable {nD : ℕ} {τ : Topo} {sig : RefSig} {F : FTy → Type} [FloatOps F]
variable (d : Dev nD) (c : Fin τ.nSC) (s : Fin τ.nSub)
variable (x : Memref sig .scVector .hbm STable .f32) (i : Memref sig .scVector .hbm SList .i32)
  (o : Memref sig .scVector .hbm SOut .f32)

/-- The task's word `j` is word `off1 0 + j` of the list. -/
theorem read_words {off1 : Fin 1 → ℕ} (h1 : ∀ a, off1 a + SWords.size a ≤ SList.size a)
    (fi : Buf (Elt F) ((words i h1).view.loc (V d c s))) (j : SWords.Idx) :
    (words i h1).view.read (Elt F) fi j
      = i.view.read (Elt F) fi ((Rect.unit (s := SList) off1 SWords.size h1).emb j) := rfl

/-- A block's element `(a, b)`, placed in the result. -/
theorem emb_block {off2 : Fin 3 → ℕ} (h2 : ∀ a, off2 a + SBlock.size a ≤ SOut.size a) (a : Fin 288) (b : Fin 128) :
    (block o h2).view.emb (ix2 a b)
      = o.view.emb ((Rect.unit (s := SOut) off2 SBlock.size h2).emb (ix3 (⟨0, Nat.one_pos⟩ : Fin 1) a b)) := by
  have e : (Shape.reshapeEquiv squeezes.numel_eq) (ix2 a b) = ix3 (⟨0, Nat.one_pos⟩ : Fin 1) a b := reshapeEquiv_ix2_1ab _ a b
  rw [← e]; rfl

/-- The block of task `k` after its copy out: the gathered array's. -/
theorem read_landed (k : Fin 16) {off1 : Fin 1 → ℕ} (h1 : ∀ a, off1 a + SWords.size a ≤ SList.size a)
    {off2 : Fin 3 → ℕ} (h2 : ∀ a, off2 a + SBlock.size a ≤ SOut.size a) (e1 : off1 = wordsOff k) (e2 : off2 = blockOff k)
    (fx : Buf (Elt F) ((table x).view.loc (V d c s))) (fi : Buf (Elt F) ((words i h1).view.loc (V d c s)))
    (fo : Buf (Elt F) ((block o h2).view.loc (V d c s)))
    (hin : ∀ j, ((words i h1).view.read (Elt F) fi j).toNat < STable.size gathers.axis)
    {y : SOut.Idx} (hy : y ∈ blockSet k) :
    o.view.read (Elt F) ((block o h2).view.write (Elt F) fo (landed d c s x i h1 fx fi hin) Finset.univ) y
      = gatherOut (x.view.read (Elt F) fx) (i.view.read (Elt F) fi) y := by
  subst e1; subst e2
  obtain ⟨h0, h1', h1''⟩ := mem_blockSet.mp hy
  have hz : y = (Rect.unit (s := SOut) (blockOff k) SBlock.size h2).emb
      (ix3 (⟨0, Nat.one_pos⟩ : Fin 1) (⟨(y 1).val - 288 * (k.val % 2), by omega⟩ : Fin 288) (y 2)) := by
    funext a; apply Fin.ext
    match a with
    | 0 => exact (show (y 0).val = k.val / 2 + 1 * 0 by omega)
    | 1 => exact (show (y 1).val = 288 * (k.val % 2) + 1 * ((y 1).val - 288 * (k.val % 2)) by omega)
    | 2 => exact (show (y 2).val = 0 + 1 * (y 2).val by omega)
  set a : Fin 288 := ⟨(y 1).val - 288 * (k.val % 2), by omega⟩ with ha
  have hw : (block o h2).view.write (Elt F) fo (landed d c s x i h1 fx fi hin) Finset.univ (o.view.emb y)
      = cast (congrArg (Elt F) (block o h2).view.elt_eq.symm) (landed d c s x i h1 fx fi hin (ix2 a (y 2))) := by
    conv_lhs => rw [hz, ← emb_block o h2 a (y 2)]
    exact View.write_emb_of_mem _ _ (Finset.mem_univ _)
  rw [View.read_apply, hw]
  rw [show (cast (congrArg (Elt F) o.view.elt_eq) (cast (congrArg (Elt F) (block o h2).view.elt_eq.symm) (landed d c s x i h1 fx fi hin (ix2 a (y 2)))))
      = landed d c s x i h1 fx fi hin (ix2 a (y 2)) from by rw [cast_cast, cast_eq]]
  -- both sides read the table; the rows are the same word of the list
  show x.view.read (Elt F) fx ((Rect.unit (s := STable) ![0, 0] STable.size inb_table).emb
    (gathers.idx (SparseCore.rows ((words i h1).view.read (Elt F) fi) rfl hin) (ix2 a (y 2)))) = x.view.read (Elt F) fx _
  congr 1
  funext q; apply Fin.ext
  match q with
  | 0 =>
    rw [Rect.emb_apply]
    show 0 + 1 * ((gathers.idx _ (ix2 a (y 2))) gathers.axis).val = (rowAt _ (y 0) (y 1)).val
    rw [Shape.Gathers.idx_axis]
    have hj := hin (SWords.rowMajor.symm (Fin.cast rfl a))
    have hp : (((Rect.unit (s := SList) (wordsOff k) SWords.size h1).emb (SWords.rowMajor.symm (Fin.cast rfl a))) 0).val
        = 576 * (y 0).val + (y 1).val := by
      have hs : ((SWords.rowMajor.symm (Fin.cast rfl a)) 0).val = a.val := by
        rw [← Shape.rowMajor_val_one, Equiv.apply_symm_apply]; rfl
      rw [Rect.emb_apply]
      show 288 * k.val + 1 * _ = _
      rw [hs, ha]
      dsimp only
      omega
    rw [read_words] at hj
    rw [rowAt_val (p := (Rect.unit (s := SList) (wordsOff k) SWords.size h1).emb (SWords.rowMajor.symm (Fin.cast rfl a))) hp hj]
    show 0 + 1 * _ = _
    rw [Nat.zero_add, Nat.one_mul]
    rfl
  | 1 =>
    rw [Rect.emb_apply]
    show 0 + 1 * ((gathers.idx _ (ix2 a (y 2))) 1).val = (y 2).val
    rw [Shape.Gathers.idx_of_ne _ _ _ _ (by decide), Nat.zero_add, Nat.one_mul]
    rfl

end Value

end Cert.Proof.Tile

end
-- ==== Proof.Call.lean ====
/-
  THE SPARSECORE CALL'S RESOURCES, and how its sixteen tasks share them: each task its words of the list and its block of
  the result whole, and a sixteenth share of the table, which every task reads (`taskPts`); all of them together are
  the three arrays whole (`call_split`). A task leaves its block at the gathered array's (`task_run`), so the call
  leaves the result at the gathered array (`gathered`).
-/
module

public import proofs.«01_k».proof.Proof.Blocks

@[expose] public section

noncomputable section

namespace Cert.Proof.Tile

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {nD : ℕ} {τ : Topo} {sig : RefSig} {Λ : Labels} {F : FTy → Type} [FloatOps F]
variable {defs : Defs nD τ sig (Elt F) Λ} {𝒱₀ : Variants}

local notation "𝕄" => MT nD τ sig (HIx 1) (Elt F) ℕ (UU nD τ sig) ℕ

variable (d : Dev nD) (c : Fin τ.nSC) (s : Fin τ.nSub)
variable (x : Memref sig .scVector .hbm STable .f32) (i : Memref sig .scVector .hbm SList .i32)
  (o : Memref sig .scVector .hbm SOut .f32)

/-- Task `k`'s share of the table. -/
abbrev share (k : Fin 16) : PosShare TreeShare := pieceOf fullShare 16 (by decide) k

/-- What task `k` holds of the three arrays, and what the whole call holds. -/
def taskPts (k : Fin 16) (fx : Buf (Elt F) (x.view.loc (V d c s))) (fi : Buf (Elt F) (i.view.loc (V d c s)))
    (fo : Buf (Elt F) (o.view.loc (V d c s))) : sProp 𝕄 :=
  iprop(((words i (wordsOff_inb k)).view.loc (V d c s) ↦[(words i (wordsOff_inb k)).view.set]{fullShare} fi)
    ∗ ((table x).view.loc (V d c s) ↦[(table x).view.set]{share k} fx)
    ∗ ((block o (blockOff_inb k)).view.loc (V d c s) ↦[(block o (blockOff_inb k)).view.set]{fullShare} fo))

def callPts (fx : Buf (Elt F) (x.view.loc (V d c s))) (fi : Buf (Elt F) (i.view.loc (V d c s)))
    (fo : Buf (Elt F) (o.view.loc (V d c s))) : sProp 𝕄 :=
  iprop((i.view.loc (V d c s) ↦[i.view.set]{fullShare} fi) ∗ (x.view.loc (V d c s) ↦[x.view.set]{fullShare} fx)
    ∗ (o.view.loc (V d c s) ↦[o.view.set]{fullShare} fo))

instance taskPts_storable (k : Fin 16) (fx : Buf (Elt F) (x.view.loc (V d c s))) (fi : Buf (Elt F) (i.view.loc (V d c s)))
    (fo : Buf (Elt F) (o.view.loc (V d c s))) : BI.Storable (upEmb : UEmb _ 𝕄) (taskPts d c s x i o k fx fi fo) := by
  unfold taskPts; infer_instance
instance callPts_storable (fx : Buf (Elt F) (x.view.loc (V d c s))) (fi : Buf (Elt F) (i.view.loc (V d c s)))
    (fo : Buf (Elt F) (o.view.loc (V d c s))) : BI.Storable (upEmb : UEmb _ 𝕄) (callPts d c s x i o fx fi fo) := by
  unfold callPts; infer_instance

/-! ## The split -/

theorem set_words (k : Fin 16) : (words i (wordsOff_inb k)).view.set = (wordsSet k).map i.view.emb := View.set_slice _ _
theorem set_block (k : Fin 16) : (block o (blockOff_inb k)).view.set = (blockSet k).map o.view.emb :=
  (View.set_reshape _ _).trans (View.set_slice _ _)
theorem set_table : (table x).view.set = x.view.set := by
  refine (View.set_slice _ _).trans (congrArg (Finset.map x.view.emb) (Finset.eq_univ_iff_forall.mpr fun p => ?_))
  rw [Rect.mem_set_unit]
  intro a
  match a with
  | 0 => exact ⟨Nat.zero_le _, lt_of_lt_of_eq (p 0).isLt (Nat.zero_add _).symm⟩
  | 1 => exact ⟨Nat.zero_le _, lt_of_lt_of_eq (p 1).isLt (Nat.zero_add _).symm⟩

/-- A union of images is the image of the union. -/
theorem biUnion_map_emb {A B : Type} [DecidableEq A] [DecidableEq B] (e : A ↪ B) (f : Fin 16 → Finset A) :
    ((Finset.univ : Finset (Fin 16)).biUnion fun k => (f k).map e) = ((Finset.univ : Finset (Fin 16)).biUnion f).map e := by
  ext b
  simp only [Finset.mem_biUnion, Finset.mem_univ, true_and, Finset.mem_map]
  exact ⟨fun ⟨k, a, ha, h⟩ => ⟨a, ⟨k, ha⟩, h⟩, fun ⟨a, ⟨k, ha⟩, h⟩ => ⟨k, a, ha, h⟩⟩

theorem words_split (fi : Buf (Elt F) (i.view.loc (V d c s))) :
    (i.view.loc (V d c s) ↦[i.view.set]{fullShare} fi : sProp 𝕄)
      = bigSep Finset.univ fun k : Fin 16 => (words i (wordsOff_inb k)).view.loc (V d c s) ↦[(words i (wordsOff_inb k)).view.set]{fullShare} fi := by
  have h := pointsTo_biUnion (Ix := HIx 1) (Val := Elt F) (Name := ℕ) (U := UU nD τ sig) (Lvl := ℕ) (q := fullShare) (f := fi) (Finset.univ : Finset (Fin 16))
    (ℓ := i.view.loc (V d c s)) (fun k => (words i (wordsOff_inb k)).view.set)
    (fun a ha b hb hab => by
      rw [set_words, set_words]; exact (Finset.disjoint_map _).mpr (words_disjoint a ha b hb hab))
  have hc : (Finset.univ : Finset (Fin 16)).biUnion (fun k => (words i (wordsOff_inb k)).view.set) = i.view.set := by
    rw [Finset.biUnion_congr rfl fun k _ => set_words i k, biUnion_map_emb, words_cover]; rfl
  rw [← hc]; exact h

theorem blocks_split (fo : Buf (Elt F) (o.view.loc (V d c s))) :
    (o.view.loc (V d c s) ↦[o.view.set]{fullShare} fo : sProp 𝕄)
      = bigSep Finset.univ fun k : Fin 16 => (block o (blockOff_inb k)).view.loc (V d c s) ↦[(block o (blockOff_inb k)).view.set]{fullShare} fo := by
  have h := pointsTo_biUnion (Ix := HIx 1) (Val := Elt F) (Name := ℕ) (U := UU nD τ sig) (Lvl := ℕ) (q := fullShare) (f := fo) (Finset.univ : Finset (Fin 16))
    (ℓ := o.view.loc (V d c s)) (fun k => (block o (blockOff_inb k)).view.set)
    (fun a ha b hb hab => by
      rw [set_block, set_block]; exact (Finset.disjoint_map _).mpr (blocks_disjoint a ha b hb hab))
  have hc : (Finset.univ : Finset (Fin 16)).biUnion (fun k => (block o (blockOff_inb k)).view.set) = o.view.set := by
    rw [Finset.biUnion_congr rfl fun k _ => set_block o k, biUnion_map_emb, blocks_cover]; rfl
  rw [← hc]; exact h

theorem table_split (fx : Buf (Elt F) (x.view.loc (V d c s))) :
    (x.view.loc (V d c s) ↦[x.view.set]{fullShare} fx : sProp 𝕄)
      = bigSep Finset.univ fun k : Fin 16 => (table x).view.loc (V d c s) ↦[(table x).view.set]{share k} fx := by
  rw [← set_table]; exact pointsTo_piecesOf _ fx (by decide) fullShare

/-- The call's three arrays are its sixteen tasks' parts of them. -/
theorem call_split (fx : Buf (Elt F) (x.view.loc (V d c s))) (fi : Buf (Elt F) (i.view.loc (V d c s)))
    (fo : Buf (Elt F) (o.view.loc (V d c s))) :
    callPts d c s x i o fx fi fo = bigSep Finset.univ fun k : Fin 16 => taskPts d c s x i o k fx fi fo := by
  unfold callPts taskPts
  rw [bigSep_sep', bigSep_sep', words_split, table_split, blocks_split]

/-! ## The result -/

/-- The result's buffer after the call. -/
def gathered (fx : Buf (Elt F) (x.view.loc (V d c s))) (fi : Buf (Elt F) (i.view.loc (V d c s)))
    (fo : Buf (Elt F) (o.view.loc (V d c s))) : Buf (Elt F) (o.view.loc (V d c s)) :=
  o.view.write (Elt F) fo (gatherOut (x.view.read (Elt F) fx) (i.view.read (Elt F) fi)) Finset.univ

/-- It reads as the gathered array. -/
theorem read_gathered (fx : Buf (Elt F) (x.view.loc (V d c s))) (fi : Buf (Elt F) (i.view.loc (V d c s)))
    (fo : Buf (Elt F) (o.view.loc (V d c s))) :
    o.view.read (Elt F) (gathered d c s x i o fx fi fo) = gatherOut (x.view.read (Elt F) fx) (i.view.read (Elt F) fi) :=
  View.read_write_univ _ _

/-- Task `k`'s block after its copy out holds what the gathered array does. -/
theorem block_landed (k : Fin 16) (fx : Buf (Elt F) (x.view.loc (V d c s))) (fi : Buf (Elt F) (i.view.loc (V d c s)))
    (fo : Buf (Elt F) (o.view.loc (V d c s)))
    (hin : ∀ j, ((words i (wordsOff_inb k)).view.read (Elt F) fi j).toNat < STable.size gathers.axis) :
    ((block o (blockOff_inb k)).view.loc (V d c s) ↦[(block o (blockOff_inb k)).view.set]{fullShare}
        (block o (blockOff_inb k)).view.write (Elt F) fo (landed d c s x i (wordsOff_inb k) fx fi hin) Finset.univ : sProp 𝕄)
      = (block o (blockOff_inb k)).view.loc (V d c s) ↦[(block o (blockOff_inb k)).view.set]{fullShare} gathered d c s x i o fx fi fo := by
  refine pointsTo_congr fun p hp => ?_
  rw [set_block] at hp
  obtain ⟨y, hy, rfl⟩ := Finset.mem_map.mp hp
  have h1 := read_landed d c s x i o k (wordsOff_inb k) (blockOff_inb k) rfl rfl fx fi fo hin hy
  have h2 := congrFun (read_gathered d c s x i o fx fi fo) y
  have h := h1.trans h2.symm
  rw [View.read_apply, View.read_apply] at h
  exact (cast_inj _).mp h

/-! ## A task's run -/

variable (l : Memref sig .scVector .vmem SWords .i32) (hl : l.IsWhole)
  (r : Memref sig .scVector .vmem SRows .f32) (hr : r.IsWhole) (sA sB sC : DmaSem sig)
  {off1 : Fin 1 → ℕ} (h1 : ∀ a, off1 a + SWords.size a ≤ SList.size a)
  {off2 : Fin 3 → ℕ} (h2 : ∀ a, off2 a + SBlock.size a ≤ SOut.size a)

/-- Task `k`, from its parts of the three arrays to its parts of them, the result's now the gathered array's. The words
    of the list name rows of the table. -/
theorem task_run {O : CellTallies nD τ sig (HIx 1)} {W : Waits sig (HIx 1)} (k : Fin 16) (e1 : off1 = wordsOff k) (e2 : off2 = blockOff k)
    (fx : Buf (Elt F) (x.view.loc (V d c s))) (fi : Buf (Elt F) (i.view.loc (V d c s))) (fo : Buf (Elt F) (o.view.loc (V d c s)))
    (fl : Buf (Elt F) (l.view.loc (V d c s))) (fr : Buf (Elt F) (r.view.loc (V d c s)))
    (hin : ∀ p, (i.view.read (Elt F) fi p).toNat < 1024)
    (hN : ∑ j, (r.slice (SRows.rowRect gathers.axis' j) (SRows.stride_rowRect gathers.axis' j)).view.dmaCredit = r.view.dmaCredit) :
    iprop(Transfers.MayWaits (V d c s) (default : HIx 1) O
        ∗ taskPts d c s x i o k fx fi fo
        ∗ (l.view.loc (V d c s) ↦[l.view.set]{fullShare} fl) ∗ (r.view.loc (V d c s) ↦[r.view.set]{fullShare} fr)
        ∗ semVal (V d c s, .dma sA) 0 ∗ semVal (V d c s, .dma sB) 0 ∗ semVal (V d c s, .dma sC) 0
        ∗ owes (V d c s) O W)
      ⊢ (wp frame (wpE defs 𝒱₀ (V d c s) none) Set.univ (prog x i o l hl r hr sA sB sC h1 h2 c s)
          fun _ => iprop(taskPts d c s x i o k fx fi (gathered d c s x i o fx fi fo)
            ∗ (∃ f, l.view.loc (V d c s) ↦[l.view.set]{fullShare} f) ∗ (∃ f, r.view.loc (V d c s) ↦[r.view.set]{fullShare} f)
            ∗ semVal (V d c s, .dma sA) 0 ∗ semVal (V d c s, .dma sB) 0 ∗ semVal (V d c s, .dma sC) 0
            ∗ ∃ W', ⌜∀ p ∈ W', p ∈ W ∨ p.2 = none⌝ ∗ owes (V d c s) O W') : sProp 𝕄) := by
  subst e1; subst e2
  have hin' : ∀ j, ((words i (wordsOff_inb k)).view.read (Elt F) fi j).toNat < STable.size gathers.axis := fun j => hin _
  unfold taskPts
  rw [← block_landed d c s x i o k fx fi fo hin']
  iintro ⟨Hmw, ⟨Hi, Hx, Ho⟩, Hl, Hr, HA, HB, HC, HO⟩
  iapply ((run d c s x i o l hl r hr sA sB sC h1 h2 (share k) fx fi fo fl fr hin' hN).trans (wp_mono frame _ _ fun _ => by
    iintro ⟨Hi, Hx, Ho, Hl, Hr, HA, HB, HC, HO⟩
    isplitl [Hi Hx Ho]
    · isplitl [Hi]; · iexact Hi
      isplitl [Hx]; · iexact Hx
      iexact Ho
    isplitl [Hl]; · iexact Hl
    isplitl [Hr]; · iexact Hr
    isplitl [HA]; · iexact HA
    isplitl [HB]; · iexact HB
    isplitl [HC]; · iexact HC
    iexact HO))
  isplitl [Hmw]; · iexact Hmw
  isplitl [Hi]; · iexact Hi
  isplitl [Hx]; · iexact Hx
  isplitl [Ho]; · iexact Ho
  isplitl [Hl]; · iexact Hl
  isplitl [Hr]; · iexact Hr
  isplitl [HA]; · iexact HA
  isplitl [HB]; · iexact HB
  isplitl [HC]; · iexact HC
  iexact HO

end Cert.Proof.Tile

end
-- ==== Proof.GatherRun.lean ====
/-
  THE SPARSECORE CALL ALONE (`Gather`): its run, once for any float values. @main pads the codebook with 64 lanes of
  zeros, makes the call, and keeps the first 64 lanes of what the call leaves. `run_main`: under indices below 1024
  every weakly fair execution terminates, the result is `out m c`, both arguments are unchanged, and every semaphore
  counter is back at zero. The printed text of `GatherIdeal` is the same, and its claims are read off the same run.
-/
module

public import proofs.«01_k».proof.Defs
public import proofs.«01_k».proof.Proof.Call
public import Idealize.ShloMosaic.Lib.StableHlo.Run
public import proofs.«01_k».proof.Proof.Gen.Gather
public import proofs.«01_k».proof.Proof.Gen.Gather.Skeleton

@[expose] public section

noncomputable section

namespace Cert.Proof.GatherRun

open Cert.Gather Cert.Gather.Gen
open Cert.Proof.Tile (callPts taskPts gathered gatherOut UU)

open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UG : Type := UU nD τ sig

local notation "𝕄" => MT nD τ sig (HIx 1) (Elt F) ℕ UG ℕ

abbrev EH : Emb (URounds (GSem nD τ sig) ℕ) (MT nD τ sig (HIx 1) (Elt F) ℕ UG ℕ) := embL

abbrev xM : Memref sig .scVector .hbm S1024x128 .f32 := Memref.whole main_v0_scv
abbrev iM : Memref sig .scVector .hbm S4608 .i32 := Memref.whole main_arg1_scv
abbrev oM : Memref sig .scVector .hbm S8x576x128 .f32 := Memref.whole main_v1_scv
abbrev lM : Memref sig .scVector .vmem S288 .i32 := Memref.whole cc0_scratch0
abbrev rM : Memref sig .scVector .vmem S288x128 .f32 := Memref.whole cc0_scratch1

/-! ## The contents before the call, after it, and at the end -/

variable (m : (ℓ : Loc nD τ sig) → Buf (Elt F) ℓ) (ρ : Dev nD → PrngReg)

abbrev cbR : DevRef τ sig := Proc.tc.devRef main_arg0
abbrev idxR : DevRef τ sig := Proc.tc.devRef main_arg1
abbrev cR : DevRef τ sig := Proc.tc.devRef main_c
abbrev zR : DevRef τ sig := Proc.tc.devRef main_call0_v0
abbrev tabR : DevRef τ sig := Proc.tc.devRef main_v0
abbrev outR : DevRef τ sig := Proc.tc.devRef main_v1
abbrev resR : DevRef τ sig := Proc.tc.devRef main_v2

/-- @main's seven arrays; the three of the call; the three that the claims read. -/
abbrev S7 : Finset (DevRef τ sig) := {cbR, idxR, cR, zR, tabR, outR, resR}
abbrev SCall : Finset (DevRef τ sig) := {idxR, tabR, outR}
abbrev SRes : Finset (DevRef τ sig) := {cbR, idxR, resR}

variable [FloatOps F]

/-- @main's operations on the host. -/
abbrev opC : HloOp τ sig (Elt F) := StableHlo.nullary main_c (constantI S_ 32 0#32)
abbrev opZ : HloOp τ sig (Elt F) := StableHlo.TRef.unary (.of main_c) main_call0.v0 (sitofp .f32)
abbrev opPad : HloOp τ sig (Elt F) :=
  StableHlo.TRef.binary (.of main_arg0 : StableHlo.TRef sig ⟨S1024x64, .f32⟩) main_call0.v0 main_call0.v1
    (fun x v => pad S1024x128 ![0, 0] ![0, 64] ![0, 0] x v Facts₀.pads_S1024x64_S1024x128_000_0640 Facts₀.h_S_)
abbrev opSl : HloOp τ sig (Elt F) :=
  StableHlo.unary main_v1 main_v2 ((extractStridedSlice S8x576x64 ![0, 0, 0] · Facts₀.slices_S8x576x128_S8x576x64_0_0_0)
    : (⟨S8x576x128, .f32⟩ : BufTy).Contents (Elt F) → (⟨S8x576x64, .f32⟩ : BufTy).Contents (Elt F))

def V0 (d : Dev nD) : Valuation τ sig (Elt F) := fun b => m (d, b)
def V3 (d : Dev nD) : Valuation τ sig (Elt F) := (opPad (F := F)).result ((opZ (F := F)).result ((opC (F := F)).result (V0 m d)))

/-- The result's buffer of the call after it. -/
def callOut (d : Dev nD) : outR.ty.Contents (Elt F) := gathered d 0 0 xM iM oM (V3 m d tabR) (V3 m d idxR) (V3 m d outR)
def V4 (d : Dev nD) : Valuation τ sig (Elt F) := Function.update (V3 m d) outR (callOut m d)
def V5 (d : Dev nD) : Valuation τ sig (Elt F) := (opSl (F := F)).result (V4 m d)

theorem V3_of_ne (d : Dev nD) {b : DevRef τ sig} (h1 : b ≠ cR) (h2 : b ≠ zR) (h3 : b ≠ tabR) : V3 m d b = m (d, b) := by
  unfold V3
  rw [(opPad (F := F)).result_of_not_mem _ (show b ∉ ({tabR} : Finset (DevRef τ sig)) by simpa using h3),
    (opZ (F := F)).result_of_not_mem _ (show b ∉ ({zR} : Finset (DevRef τ sig)) by simpa using h2),
    (opC (F := F)).result_of_not_mem _ (show b ∉ ({cR} : Finset (DevRef τ sig)) by simpa using h1)]
  rfl
theorem V5_of_ne (d : Dev nD) {b : DevRef τ sig} (h1 : b ≠ resR) (h2 : b ≠ outR) : V5 m d b = V3 m d b := by
  unfold V5 V4
  rw [(opSl (F := F)).result_of_not_mem _ (show b ∉ ({resR} : Finset (DevRef τ sig)) by simpa using h1), Function.update_of_ne h2]
theorem V5_cb (d : Dev nD) : V5 m d cbR = m (d, cbR) :=
  (V5_of_ne m d (by decide) (by decide)).trans (V3_of_ne m d (by decide) (by decide) (by decide))
theorem V5_idx (d : Dev nD) : V5 m d idxR = m (d, idxR) :=
  (V5_of_ne m d (by decide) (by decide)).trans (V3_of_ne m d (by decide) (by decide) (by decide))

/-! ## What the handshakes carry -/

/-- The call takes its three arrays whole and brings them back, the result's at the gathered array; a task likewise its
    parts of them. -/
def P : (K (F := F)).Pay (nD := nD) (Val := Elt F) (Name := ℕ) (U := UG) where
  st := fun q d _ => match q with | 0 => callPts d 0 0 xM iM oM (V3 m d tabR) (V3 m d idxR) (V3 m d outR)
  dn := fun q d _ => match q with | 0 => callPts d 0 0 xM iM oM (V3 m d tabR) (V3 m d idxR) (callOut m d)
  go := fun q d _ i => match q with | 0 => taskPts d 0 0 xM iM oM (Fin.cast nSub_zero i) (V3 m d tabR) (V3 m d idxR) (V3 m d outR)
  td := fun q d _ i => match q with | 0 => taskPts d 0 0 xM iM oM (Fin.cast nSub_zero i) (V3 m d tabR) (V3 m d idxR) (callOut m d)
  x := fun _ _ => iprop(emp)

instance P_storable : (P (F := F) m).IsStorable where
  st q d _ := match q with | 0 => Tile.callPts_storable d 0 0 xM iM oM (V3 m d tabR) (V3 m d idxR) (V3 m d outR)
  dn q d _ := match q with | 0 => Tile.callPts_storable d 0 0 xM iM oM (V3 m d tabR) (V3 m d idxR) (callOut m d)
  go q d _ i := match q with
    | 0 => Tile.taskPts_storable d 0 0 xM iM oM (Fin.cast nSub_zero i) (V3 m d tabR) (V3 m d idxR) (V3 m d outR)
  td q d _ i := match q with
    | 0 => Tile.taskPts_storable d 0 0 xM iM oM (Fin.cast nSub_zero i) (V3 m d tabR) (V3 m d idxR) (callOut m d)

/-- What the run asks of the launch memory: every index names a row of the codebook. -/
def InRange : Prop := ∀ (d : Dev nD) (p : S4608.Idx), (show BitVec 32 from m (d, idxR) p).toNat < 1024

/-! ## The task -/

section Task

variable (d : Dev nD) (L : grid0.Coords)

abbrev cV (L : grid0.Coords) : Fin τ.nSC := (L 0).castLE Facts₀.hcore0
abbrev jV (L : grid0.Coords) : Fin τ.nSub := (L 1).castLE Facts₀.hsub0
omit [FloatOps F] in
theorem bound_one : grid0.bound 1 = 16 := rfl
abbrev jL (L : grid0.Coords) : Fin 16 := Fin.cast bound_one (L 1)

omit [FloatOps F] in
theorem off1_eq : k0_off1 L = Tile.wordsOff (jL L) := by
  have h0 : (L 0).val = 0 := Nat.lt_one_iff.mp (L 0).isLt
  rw [k0_off1_eq, h0]; rfl
omit [FloatOps F] in
theorem off2_eq : ∀ L : grid0.Coords, k0_off2 L = Tile.blockOff (jL L) := by decide +kernel

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (lM).view.loc (V d (cV L) (jV L)) ↦[(lM).view.set]{fullShare} f) ∗ (∃ f, (rM).view.loc (V d (cV L) (jV L)) ↦[(rM).view.set]{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  rw [show (lM).view.set = Finset.univ from View.set_whole _, show (rM).view.set = Finset.univ from View.set_whole _]
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task on vector subcore `(L 0, L 1)` of device `d`. -/
theorem tile_body (hF : (K (F := F)).Facts) (hpre : InRange m) (O : CellTallies nD τ sig (HIx 1)) (W : Waits sig (HIx 1)) (hO : ∀ g, O g none = 0) :
    iprop(levAts (K (F := F)).L (K (F := F)).lev ∗ emp
        ∗ taskPts d 0 0 xM iM oM (jL L) (V3 m d tabR) (V3 m d idxR) (V3 m d outR)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L xM (Memref.isWhole_whole _) iM (Memref.isWhole_whole _) oM (Memref.isWhole_whole _)
            lM (Memref.isWhole_whole _) rM (Memref.isWhole_whole _) cc0_scratch2 cc0_scoped0 cc0_scoped1)
          fun _ => (iprop(taskPts d 0 0 xM iM oM (jL L) (V3 m d tabR) (V3 m d idxR) (callOut m d)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  have hin : ∀ p, ((iM).view.read (Elt F) (V3 m d idxR) p).toNat < 1024 := fun p => by
    rw [V3_of_ne m d (by decide) (by decide) (by decide)]; exact hpre d p
  have hN : ∑ j, ((rM).slice (Tile.SRows.rowRect Tile.gathers.axis' j) (Tile.SRows.stride_rowRect Tile.gathers.axis' j)).view.dmaCredit
      = (rM).view.dmaCredit := by decide
  iintro ⟨#Hlv, -, Ht, ⟨⟨%fs, Hs⟩, ⟨%fr, Hr⟩, Hbufs⟩, ⟨HA, HB, HC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply ((Tile.task_run d (cV L) (jV L) xM iM oM lM (Memref.isWhole_whole _) rM (Memref.isWhole_whole _) cc0_scoped0.sem cc0_scratch2.sem cc0_scoped1.sem
      (k0_off1_inb L) (k0_off2_inb L) (defs := defs₀ (F := F)) (𝒱₀ := 𝒱₀) (O := O) (W := W) (jL L) (off1_eq L) (off2_eq L)
      (V3 m d tabR) (V3 m d idxR) (V3 m d outR) fs fr hin hN).trans (wp_wand frame _ _)) $$ [Hmw Ht Hs Hr HA HB HC HO]
  · isplitl [Hmw]; · iexact Hmw
    isplitl [Ht]; · iexact Ht
    isplitl [Hs]; · iexact Hs
    isplitl [Hr]; · iexact Hr
    isplitl [HA]; · iexact HA
    isplitl [HB]; · iexact HB
    isplitl [HC]; · iexact HC
    iexact HO
  iintro %_ ⟨Ht, Hs, Hr, HA, HB, HC, HO⟩
  isplitl [Ht]; · iexact Ht
  isplitl [Hs Hr Hbufs]
  · isplitl [Hs]; · iexact Hs
    isplitl [Hr]; · iexact Hr
    iexact Hbufs
  isplitl [HA HB HC Hsems]
  · isplitl [HA]; · iexact HA
    isplitl [HB]; · iexact HB
    isplitl [HC]; · iexact HC
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0__sc_gather_body (coordsV c s)
          xM (Memref.isWhole_whole _) iM (Memref.isWhole_whole _) oM (Memref.isWhole_whole _)
          lM (Memref.isWhole_whole _) rM (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Task

/-! ## The call's arrays split among its tasks -/

theorem tasks_eq (d : Dev nD) (fo : outR.ty.Contents (Elt F)) :
    (bigSep Finset.univ fun i : Fin ((K (F := F)).nSub 0) =>
        (taskPts d 0 0 xM iM oM (Fin.cast nSub_zero i) (V3 m d tabR) (V3 m d idxR) fo : sProp 𝕄))
      = callPts d 0 0 xM iM oM (V3 m d tabR) (V3 m d idxR) fo :=
  (bigSep_congr fun _ _ => rfl).trans (Tile.call_split d 0 0 xM iM oM (V3 m d tabR) (V3 m d idxR) fo).symm

theorem vecSplit : (K (F := F)).VecSplit' (P m) 0 := by
  intro d c
  show callPts d 0 0 xM iM oM (V3 m d tabR) (V3 m d idxR) (V3 m d outR) ⊢ |={Set.univ}=> iprop(
      (bigSep Finset.univ fun i : Fin ((K (F := F)).nSub 0) =>
        (taskPts d 0 0 xM iM oM (Fin.cast nSub_zero i) (V3 m d tabR) (V3 m d idxR) (V3 m d outR) : sProp 𝕄))
      ∗ ((bigSep Finset.univ fun i : Fin ((K (F := F)).nSub 0) =>
          (taskPts d 0 0 xM iM oM (Fin.cast nSub_zero i) (V3 m d tabR) (V3 m d idxR) (callOut m d) : sProp 𝕄))
          -∗ callPts d 0 0 xM iM oM (V3 m d tabR) (V3 m d idxR) (callOut m d)))
  rw [tasks_eq, tasks_eq]
  iintro H; imodintro
  isplitl [H]; · iexact H
  iintro H; iexact H

/-! ## The launch element of the certificate's ghost state -/

def u₀ : UG := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : URounds (GSem nD τ sig) Unit × Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

omit [FloatOps F] in
theorem held_insert {d : Dev nD} {b : DevRef τ sig} {A : Finset (DevRef τ sig)} (h : b ∉ A) (W : Valuation τ sig (Elt F)) :
    (held (SparseCore.T d) (insert b A) W : sProp 𝕄) = iprop(((d, b) ↦{fullShare} W b) ∗ held (SparseCore.T d) A W) :=
  SparseCore.bigSep_insert' h

theorem unscoped_held (d : Dev nD) : (unscopedBufs d (fun b => m ((SparseCore.T d).loc b)) : sProp 𝕄) = held (SparseCore.T d) S7 (V0 m d) := by
  unfold unscopedBufs
  rw [show (Finset.univ.filter fun b : Ref sig .tc => ¬ b.isScoped) = {main_arg0, main_arg1, main_c, main_call0_v0, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton,
    held_insert (by decide), held_insert (by decide), held_insert (by decide), held_insert (by decide), held_insert (by decide), held_insert (by decide)]
  unfold held
  rw [bigSep_singleton]
  rfl

/-- The call's three arrays, as the call takes them. -/
theorem held_call (d : Dev nD) (W : Valuation τ sig (Elt F)) :
    (held (SparseCore.T d) SCall W : sProp 𝕄) = callPts d 0 0 xM iM oM (W tabR) (W idxR) (W outR) := by
  rw [held_insert (by decide), held_insert (by decide)]
  unfold callPts held
  rw [bigSep_singleton, show (xM).view.set = Finset.univ from View.set_whole _, show (iM).view.set = Finset.univ from View.set_whole _,
    show (oM).view.set = Finset.univ from View.set_whole _]

theorem st0_eq (d : Dev nD) : (bigSep Finset.univ fun c : Fin ((K (F := F)).nCore 0) => (P m).st 0 d c)
    = callPts d 0 0 xM iM oM (V3 m d tabR) (V3 m d idxR) (V3 m d outR) :=
  bigSep_univ_of_subsingleton (0 : Fin 1)
theorem dn0_eq (d : Dev nD) : (bigSep Finset.univ fun c : Fin ((K (F := F)).nCore 0) => (P m).dn 0 d c)
    = callPts d 0 0 xM iM oM (V3 m d tabR) (V3 m d idxR) (callOut m d) :=
  bigSep_univ_of_subsingleton (0 : Fin 1)

theorem held_before (d : Dev nD) :
    (held (SparseCore.T d) S7 ((opPad (F := F)).result ((opZ (F := F)).result ((opC (F := F)).result (V0 m d)))) : sProp 𝕄)
    = iprop(callPts d 0 0 xM iM oM (V3 m d tabR) (V3 m d idxR) (V3 m d outR) ∗ held (SparseCore.T d) (S7 \ SCall) (V3 m d)) := by
  rw [show (opPad (F := F)).result ((opZ (F := F)).result ((opC (F := F)).result (V0 m d))) = V3 m d from rfl,
    held_sub_split (SparseCore.T d) (show SCall ⊆ S7 by decide), held_call]

theorem held_after (d : Dev nD) : (held (SparseCore.T d) S7 (V4 m d) : sProp 𝕄)
    = iprop(callPts d 0 0 xM iM oM (V3 m d tabR) (V3 m d idxR) (callOut m d) ∗ held (SparseCore.T d) (S7 \ SCall) (V3 m d)) := by
  rw [held_sub_split (SparseCore.T d) (show SCall ⊆ S7 by decide), held_call]
  unfold V4
  rw [Function.update_self, Function.update_of_ne (show tabR ≠ outR by decide), Function.update_of_ne (show idxR ≠ outR by decide)]
  rw [held_congr (SparseCore.T d) fun b (hb : b ∈ S7 \ SCall) => Function.update_of_ne (show b ≠ outR from fun e => by
    subst e; exact absurd hb (by decide)) (callOut m d) (V3 m d)]

/-- What @main leaves the claims: its arrays at their final contents. -/
abbrev FIN (d : Dev nD) : sProp 𝕄 := held (SparseCore.T d) S7 (V5 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opC) (S := S7) (show ({cR} : Finset (DevRef τ sig)) ⊆ S7 by decide) (V := V0 m d)) $$ [Hb Hheld]
  · isplitl [Hb] <;> iassumption
  iintro ⟨Hb, Hheld⟩
  rw [wp_ret]; imodintro
  iapply (wp_hlo_within 𝒱 (SparseCore.T d) none Set.univ (op := opZ) (S := S7) (show ({cR, zR} : Finset (DevRef τ sig)) ⊆ S7 by decide)
    (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opPad) (S := S7) (show ({cbR, zR, tabR} : Finset (DevRef τ sig)) ⊆ S7 by decide)
    (V := (opZ (F := F)).result ((opC (F := F)).result (V0 m d)))) $$ [Hb Hheld]
  · isplitl [Hb] <;> iassumption
  iintro ⟨Hb, Hheld⟩
  rw [wp_ret]; imodintro
  ihave Hh := (Entails.of_eq (held_before m d)) $$ Hheld
  icases Hh with ⟨Hc, Hrest⟩
  iapply ((K (F := F)).wp_run (D (F := F)) 𝒱 (EH := EH) (P := P m) κ d 0) $$ [Hst Hc Hb Hrest Hts]
  isplitr; · iexact Hctx
  isplitl [Hst]; · iexact Hst
  isplitl [Hc]; · rw [st0_eq]; iexact Hc
  iintro ⟨Hst, Hdn⟩
  ihave Hdn' := (Entails.of_eq (dn0_eq m d)) $$ Hdn
  iapply (wp_hlo_within 𝒱 (SparseCore.T d) none Set.univ (op := opSl) (S := S7) (show ({outR, resR} : Finset (DevRef τ sig)) ⊆ S7 by decide) (V := V4 m d)) $$ [Hb Hdn' Hrest]
  · isplitl [Hb]; · iexact Hb
    rw [held_after]
    isplitl [Hdn'] <;> iassumption
  iintro ⟨Hb, Hheld⟩
  rw [wp_ret]; imodintro; imodintro
  isplitl [Hst]; · iexact Hst
  isplitl [Hheld]; · iexact Hheld
  isplitl [Hb] <;> iassumption

/-- What the claims read of device `d`'s final state. -/
def fq (d : Dev nD) (s' : Phys nD τ sig (Elt F)) : Prop :=
  s'.mem.mem (d, resR) = V5 m d resR ∧ s'.mem.mem (d, cbR) = m (d, cbR) ∧ s'.mem.mem (d, idxR) = m (d, idxR)

set_option maxRecDepth 16384 in
theorem hfin (d : Dev nD) (s' : Phys nD τ sig (Elt F)) : iprop(FIN m d ∗ SI s') ⊢ (⌜fq m d s'⌝ : sProp 𝕄) := by
  unfold FIN
  rw [held_sub_split (SparseCore.T d) (show SRes ⊆ S7 by decide), held_insert (by decide), held_insert (by decide), V5_cb, V5_idx]
  unfold held
  rw [bigSep_singleton]
  iintro ⟨⟨⟨Hc, Hi, Hr⟩, -⟩, HSI⟩
  ihave H := (persistent_entails_right (SI_pointsTo_agree (st := s') (ℓ := (d, cbR)) (I := Finset.univ) (q := fullShare) (f := m (d, cbR)))) $$ [HSI Hc]
  · isplitl [HSI] <;> iassumption
  icases H with ⟨%h1, HSI, -⟩
  ihave H := (persistent_entails_right (SI_pointsTo_agree (st := s') (ℓ := (d, idxR)) (I := Finset.univ) (q := fullShare) (f := m (d, idxR)))) $$ [HSI Hi]
  · isplitl [HSI] <;> iassumption
  icases H with ⟨%h2, HSI, -⟩
  ihave H := (SI_pointsTo_agree (st := s') (ℓ := (d, resR)) (I := Finset.univ) (q := fullShare) (f := V5 m d resR)) $$ [HSI Hr]
  · isplitl [HSI] <;> iassumption
  icases H with %h3
  ipureintro
  exact ⟨funext fun j => h3 j (Finset.mem_univ j), funext fun j => h1 j (Finset.mem_univ j), funext fun j => h2 j (Finset.mem_univ j)⟩

/-! ## The run -/

def QC : PUnit × MemSt nD τ sig (Elt F) → Prop := fun r =>
  (∀ c : Dev nD, r.2.mem (c, resR) = V5 m c resR ∧ r.2.mem (c, cbR) = m (c, cbR) ∧ r.2.mem (c, idxR) = m (c, idxR)) ∧ r.2.sem = fun _ => 0

theorem run_main [∀ e, Nonempty (Elt F e)] (hpre : InRange m) :
    θ_run (Cert.Gather.defs (F := F)) (Cert.Gather.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.GatherRun

end
-- ==== Proof.Take.lean ====
/-
  `jnp.take` OF ROWS OF A TABLE, as the host computes it: a negative index counts from the end, an index out of range
  gives a row of one fill value, and any other gives its row. `take_apply`: with every index below 1024 each row of the
  result is the row its index names. Also what an and-reduction of one-bit words says of its words.
-/
module

public import Idealize.ShloMosaic.PureOps
public import Idealize.ShloMosaic.Lib.ValueIdx
public import Idealize.ShloMosaic.Lib.StableHlo.Predicate

@[expose] public section

noncomputable section

namespace Cert.Proof.Take

open Idealize.ShloMosaic Idealize.ShloMosaic.ValueIdx

abbrev S0 : Shape := ⟨0, ![]⟩
abbrev S1 : Shape := ⟨1, ![1]⟩
abbrev S11 : Shape := ⟨2, ![1, 1]⟩
abbrev SIdx : Shape := ⟨1, ![4608]⟩
abbrev SCol : Shape := ⟨2, ![4608, 1]⟩
abbrev STab : Shape := ⟨2, ![1024, 64]⟩
abbrev SRow : Shape := ⟨2, ![4608, 64]⟩

/-! ## And-reductions -/

theorem fold_andi_iff {ι : Type} [DecidableEq ι] (s : Finset ι) (f : ι → BitVec 1) :
    s.fold IntOp.andi 1#1 f = 1#1 ↔ ∀ i ∈ s, f i = 1#1 := by
  have hand : ∀ a b : BitVec 1, IntOp.andi a b = 1#1 ↔ a = 1#1 ∧ b = 1#1 := by decide
  induction s using Finset.induction with
  | empty => simp
  | insert a s ha ih => rw [Finset.fold_insert ha, hand]; simp [ih]

/-- An and-reduction from one is one exactly when every word it reads is. -/
theorem reduce_andi_iff {s t : Shape} {axes : List (Fin s.rank)} (x : IVec s 1) (h : s.ReducesTo axes t) (h0 : 0 < S0.numel)
    (j : t.Idx) : Host.reduce IntOp.andi x (constantI S0 1 1#1) h h0 j = 1#1 ↔ ∀ i, h.drop i = j → x i = 1#1 := by
  rw [Host.reduce_eq_fold]
  unfold constantI
  rw [fold_andi_iff]
  simp

/-! ## The gather of rows -/

theorem rowDims_wf : GatherDims.WF STab SCol SRow [1] [0] [] [0] [] 1 ![1, 64] := by decide

abbrev rowDims : GatherDims STab SCol SRow where
  offsetDims := [1]
  collapsedSliceDims := [0]
  operandBatchingDims := []
  startIndicesBatchingDims := []
  startIndexMap := [0]
  indexVectorDim := 1
  sliceSizes := ![1, 64]
  wf := rowDims_wf

theorem gather_row {α : Type} (x : STab.Idx → α) (idx : IVec SCol 32) (r : Fin 4608) (j : Fin 64) :
    Host.gather rowDims x idx (ix2 r j) = x (ix2 ⟨min (idx (ix2 r 0)).toInt.toNat 1023, by omega⟩ j) := by
  unfold Host.gather
  congr 1
  funext a
  refine Fin.ext ?_
  show rowDims.start (ix2 r j) idx a + rowDims.batchCoord (ix2 r j) a + rowDims.offCoord (ix2 r j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin STab.rank) ∈ rowDims.startIndexMap from List.mem_singleton.mpr rfl)]
    have hsi : rowDims.siIdx (ix2 r j) ⟨List.idxOf (⟨0, by decide⟩ : Fin STab.rank) rowDims.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    unfold GatherDims.start GatherDims.offCoord
    rw [dif_neg (show (⟨1, by decide⟩ : Fin STab.rank) ∉ rowDims.startIndexMap by decide),
      dif_pos (show (⟨1, by decide⟩ : Fin STab.rank) ∈ rowDims.sKept by decide), Nat.zero_add]
    rfl

/-! ## The take -/

theorem bS0Idx : S0.BroadcastsInDim SIdx (![] : Fin 0 → Fin SIdx.rank) := by decide
theorem bS0Col : S0.BroadcastsInDim SCol (![] : Fin 0 → Fin SCol.rank) := by decide
theorem bS0Row : S0.BroadcastsInDim SRow (![] : Fin 0 → Fin SRow.rank) := by decide
theorem bIdxCol : SIdx.BroadcastsInDim SCol (![0] : Fin 1 → Fin SCol.rank) := by decide
theorem bIdxRow : SIdx.BroadcastsInDim SRow (![0] : Fin 1 → Fin SRow.rank) := by decide
theorem bS1S11 : S1.BroadcastsInDim S11 (![1] : Fin 1 → Fin S11.rank) := by decide
theorem bS11Col : S11.BroadcastsInDim SCol (![0, 1] : Fin 2 → Fin SCol.rank) := by decide
theorem redCol : SCol.ReducesTo [1] SIdx := by decide
theorem pos0 : 0 < S0.numel := by decide

/-- The indices, a negative one counted from the end, as a column. -/
def col (idx : IVec SIdx 32) : IVec SCol 32 :=
  broadcastInDim SCol ![0] bIdxCol (select (cmpi .slt idx (broadcastInDim SIdx ![] bS0Idx (constantI S0 32 0#32)))
    (addi idx (broadcastInDim SIdx ![] bS0Idx (constantI S0 32 1024#32))) idx)

/-- Whether an index of the column names a row. -/
def mask (idx : IVec SIdx 32) : IVec SIdx 1 :=
  Host.reduce IntOp.andi (andi (cmpi .sge (col idx) (broadcastInDim SCol ![] bS0Col (constantI S0 32 0#32)))
    (cmpi .sle (col idx) (broadcastInDim SCol ![0, 1] bS11Col (broadcastInDim S11 ![1] bS1S11 (constantI S1 32 1023#32)))))
    (constantI S0 1 1#1) redCol pos0

/-- The take, `fill` where an index names no row. -/
def take {α : Type} (fill : S0.Idx → α) (tab : STab.Idx → α) (idx : IVec SIdx 32) : SRow.Idx → α :=
  select (broadcastInDim SRow ![0] bIdxRow (mask idx)) (Host.gather rowDims tab (col idx)) (broadcastInDim SRow ![] bS0Row fill)

theorem word_cases (v : BitVec 32) (h : v.toNat < 1024) :
    IntOp.cmpi .slt v 0#32 = 0#1 ∧ IntOp.andi (IntOp.cmpi .sge v 0#32) (IntOp.cmpi .sle v 1023#32) = 1#1 ∧ v.toInt.toNat = v.toNat := by
  have hi := StableHlo.Predicate.toInt_eq_toNat_of_lt (a := v) (by omega)
  have andi_ofBool (p q : Bool) : IntOp.andi (BitVec.ofBool p) (BitVec.ofBool q) = BitVec.ofBool (p && q) := by
    cases p <;> cases q <;> decide
  have e0 : BitVec.toInt 0#32 = 0 := by decide
  have e1 : BitVec.toInt 1023#32 = 1023 := by decide
  refine ⟨?_, ?_, by omega⟩
  · simp only [IntOp.cmpi, BitVec.slt_eq_decide, hi, e0]
    rw [decide_eq_false (by omega)]; rfl
  · simp only [IntOp.cmpi, andi_ofBool, BitVec.sle_eq_decide, hi, e0, e1]
    rw [decide_eq_true (by omega), decide_eq_true (by omega)]; rfl

variable {idx : IVec SIdx 32}

theorem col_apply (h : ∀ p, (idx p).toNat < 1024) (r : Fin 4608) (z : Fin 1) : col idx (ix2 r z) = idx (ix1 r) := by
  have e : col idx (ix2 r z) = Scalar.select (IntOp.cmpi .slt (idx (ix1 r)) 0#32) (IntOp.addi (idx (ix1 r)) 1024#32) (idx (ix1 r)) := by
    have hb : ∀ x : IVec SIdx 32, broadcastInDim SCol ![0] bIdxCol x (ix2 r z) = x (ix1 r) := fun x => by
      unfold broadcastInDim; congr 1; funext a; obtain rfl : a = 0 := Subsingleton.elim _ _; rfl
    unfold col; rw [hb]; rfl
  rw [e, (word_cases _ (h _)).1]; rfl

theorem mask_apply (h : ∀ p, (idx p).toNat < 1024) (r : SIdx.Idx) : mask idx r = 1#1 := by
  unfold mask
  refine (reduce_andi_iff _ _ _ r).2 fun i _ => ?_
  have e : i = ix2 (show Fin 4608 from i 0) (show Fin 1 from i 1) := eq_ix2 i
  show IntOp.andi (IntOp.cmpi .sge (col idx i) 0#32) (IntOp.cmpi .sle (col idx i) 1023#32) = 1#1
  rw [e, col_apply h]
  exact (word_cases _ (h _)).2.1

/-- With every index below 1024 each row of the take is the row its index names. -/
theorem take_apply {α : Type} (fill : S0.Idx → α) (tab : STab.Idx → α) (h : ∀ p, (idx p).toNat < 1024) (r : Fin 4608) (j : Fin 64) :
    take fill tab idx (ix2 r j) = tab (ix2 ⟨(idx (ix1 r)).toNat, h _⟩ j) := by
  have hm : broadcastInDim SRow ![0] bIdxRow (mask idx) (ix2 r j) = 1#1 := mask_apply h _
  unfold take
  rw [select_apply, hm, select_one, gather_row]
  congr 2
  refine Fin.ext ?_
  have := h (ix1 r)
  show min (col idx (ix2 r 0)).toInt.toNat 1023 = _
  rw [col_apply h, (word_cases _ this).2.2]
  exact Nat.min_eq_left (by omega)

end Cert.Proof.Take

end
-- ==== Proof.Picked.lean ====
/-
  THE ROWS PICKED, as one array [8, 576, 64]: element (b, s, j) is element j of the table's row named by index
  576·b + s. Both sides leave it: the SparseCore call on the table padded to 128 lanes, sliced back to 64
  (`slice_gather_pad`), and `jnp.take` reshaped (`reshape_take`).
-/
module

public import proofs.«01_k».proof.Proof.Blocks
public import proofs.«01_k».proof.Proof.Take
public import Idealize.ShloMosaic.Lib.KernelVsHost
public import Idealize.ShloMosaic.Lib.ValueLayout

@[expose] public section

noncomputable section

namespace Cert.Proof.Picked

open Idealize.ShloMosaic Idealize.ShloMosaic.ValueIdx
open Cert.Proof.Tile (STable SList SOut gatherOut rowAt rowAt_val)
open Cert.Proof.Take (STab SIdx SRow S0 take take_apply)

abbrev SRes : Shape := ⟨3, ![8, 576, 64]⟩

def picked {α : Type} (tab : STab.Idx → α) (idx : SIdx.Idx → BitVec 32) : SRes.Idx → α :=
  fun y => tab (ix2 (rowAt idx (y 0) (y 1)) (y 2))

theorem slice_gather_pad {α : Type} (tab : STab.Idx → α) (idx : SIdx.Idx → BitVec 32) {u : Shape} (v : u.Idx → α)
    (hp : STab.Pads ![0, 0] ![0, 64] ![0, 0] STable) (hu : 0 < u.numel) (hs : SOut.Slices ![0, 0, 0] SRes) :
    extractStridedSlice SRes ![0, 0, 0] (gatherOut (pad STable ![0, 0] ![0, 64] ![0, 0] tab v hp hu) idx) hs = picked tab idx := by
  funext y
  have h2 : (y 2).val < 64 := (y 2).isLt
  have e : extractStridedSlice SRes ![0, 0, 0] (gatherOut (pad STable ![0, 0] ![0, 64] ![0, 0] tab v hp hu) idx) hs y
      = pad STable ![0, 0] ![0, 64] ![0, 0] tab v hp hu (ix2 (rowAt idx (y 0) (y 1)) ⟨(y 2).val, by omega⟩) := by
    unfold extractStridedSlice gatherOut
    dsimp only
    congr 1
    funext a
    match a with
    | ⟨0, _⟩ =>
      refine congrArg₂ (rowAt idx) (Fin.ext ?_) (Fin.ext ?_)
      · exact Nat.zero_add _
      · exact Nat.zero_add _
    | ⟨1, _⟩ => exact Fin.ext (Nat.zero_add _)
  rw [e]
  exact pad_apply_of_inside _ _ _ _ _ _ _ _ (ix2 (rowAt idx (y 0) (y 1)) (y 2)) fun a => by
    match a with
    | ⟨0, _⟩ => show _ = 0 + _ * (0 + 1); rw [Nat.zero_add, Nat.mul_one]; rfl
    | ⟨1, _⟩ => show _ = 0 + _ * (0 + 1); rw [Nat.zero_add, Nat.mul_one]; rfl

theorem reshape_take {α : Type} (fill : S0.Idx → α) (tab : STab.Idx → α) {idx : SIdx.Idx → BitVec 32}
    (h : ∀ p, (idx p).toNat < 1024) (hc : SRow.ShapeCasts SRes) : shapeCast SRes (take fill tab idx) hc = picked tab idx := by
  funext y
  have h0 : (y 0).val < 8 := (y 0).isLt
  have h1 : (y 1).val < 576 := (y 1).isLt
  rw [shapeCast_apply _ hc y (ix2 (⟨576 * (y 0).val + (y 1).val, by omega⟩ : Fin 4608) (show Fin 64 from y 2)) (by
    rw [Shape.rowMajor_val_three, Shape.rowMajor_val_two]
    show (576 * (y 0).val + (y 1).val) * 64 + (y 2).val = ((y 0).val * 576 + (y 1).val) * 64 + (y 2).val
    rw [Nat.mul_comm 576]), take_apply fill tab h]
  unfold picked
  congr 2
  exact Fin.ext (rowAt_val (b := y 0) (s := y 1) rfl (h _)).symm

end Cert.Proof.Picked

end
-- ==== Proof.GatherValue.lean ====
/-
  THE CLAIMS OF THE SPARSECORE CALL ALONE (`Gather`, `GatherIdeal`), from its run in GatherRun.lean: under indices in
  range it runs to the end, the arguments unchanged and every semaphore counter at zero, and its result is the rows
  picked, which is what the host's `jnp.take` gives.
-/
module

public import proofs.«01_k».proof.Proof.GatherRun
public import proofs.«01_k».proof.Proof.Picked
public import proofs.«01_k».proof.Proof.Gen.GatherIdeal
public import proofs.«01_k».proof.Proof.Gen.GatherReference.Run
public import proofs.«01_k».proof.Proof.Gen.GatherReferenceIdeal.Run
public import proofs.«01_k».proof.Proof.Gen.Pre_in_range

@[expose] public section

noncomputable section

namespace Cert.Proof.GatherValue

open Idealize.ShloMosaic Idealize.SL.Sem
open Cert.Proof.GatherRun (V0 V3 V4 V5 tabR idxR cbR outR resR InRange callOut run_main opC opZ opPad opSl cR zR)
open Cert.Proof.Picked (picked slice_gather_pad reshape_take)
open Cert.Proof.Take (reduce_andi_iff)

variable {F : FTy → Type} [FloatOps F]

/-! ## The result -/

section Value
open Cert.Gather

variable (m : (ℓ : Loc nD τ sig) → Buf (Elt F) ℓ)

/-- The padded table, as the call reads it. -/
theorem V3_tab (d : Dev nD) : ∃ v : S_.Idx → F .f32,
    V3 m d tabR = pad S1024x128 ![0, 0] ![0, 64] ![0, 0] (m (d, cbR)) v
      Gen.facts.pads_S1024x64_S1024x128_000_0640 Gen.facts.h_S_ := by
  refine ⟨((opZ (F := F)).result ((opC (F := F)).result (V0 m d))) zR, ?_⟩
  unfold V3
  rw [show (opPad (F := F)).result ((opZ (F := F)).result ((opC (F := F)).result (V0 m d))) tabR
      = pad S1024x128 ![0, 0] ![0, 64] ![0, 0] (((opZ (F := F)).result ((opC (F := F)).result (V0 m d))) cbR)
          (((opZ (F := F)).result ((opC (F := F)).result (V0 m d))) zR) Gen.facts.pads_S1024x64_S1024x128_000_0640 Gen.facts.h_S_ from
    StableHlo.binary_result .. ]
  rw [(opZ (F := F)).result_of_not_mem _ (show cbR ∉ ({zR} : Finset (DevRef τ sig)) by decide),
    (opC (F := F)).result_of_not_mem _ (show cbR ∉ ({cR} : Finset (DevRef τ sig)) by decide)]
  rfl

theorem V5_res (d : Dev nD) : V5 m d resR = picked (m (d, cbR)) (m (d, idxR)) := by
  obtain ⟨v, hv⟩ := V3_tab m d
  have hc : V4 m d outR = Tile.gatherOut (V3 m d tabR) (V3 m d idxR) :=
    (Function.update_self _ _ _).trans (Tile.read_gathered d 0 0 GatherRun.xM GatherRun.iM GatherRun.oM (V3 m d tabR) (V3 m d idxR) (V3 m d outR))
  have hs : V5 m d resR = extractStridedSlice S8x576x64 ![0, 0, 0] (V4 m d outR) Gen.facts.slices_S8x576x128_S8x576x64_0_0_0 :=
    StableHlo.unary_result ..
  rw [hs, hc, hv, GatherRun.V3_of_ne m d (by decide) (by decide) (by decide)]
  exact slice_gather_pad _ _ _ _ _ _

end Value

/-! ## The precondition -/

/-- Both and-reductions one: every index names a row. -/
theorem words_in_range (tab : FVec F Cert.Pre_in_range.S1024x64 .f32) (idx : IVec Cert.Pre_in_range.S4608 32)
    (h1 : (Cert.Pre_in_range.fn tab idx).1 = fun _ => 1#1) (h2 : (Cert.Pre_in_range.fn tab idx).2 = fun _ => 1#1)
    (p : Cert.Pre_in_range.S4608.Idx) : (idx p).toNat < 1024 := by
  unfold Cert.Pre_in_range.fn at h1 h2
  have e1 := congrFun h1 ValueIdx.ix0
  have e2 := congrFun h2 ValueIdx.ix0
  dsimp only at e1 e2
  rw [reduce_andi_iff] at e1 e2
  have g1 : IntOp.cmpi .sge (idx p) 0#32 = 1#1 := e1 p (funext fun a => a.elim0)
  have g2 : IntOp.cmpi .slt (idx p) 1024#32 = 1#1 := e2 p (funext fun a => a.elim0)
  have key : ∀ v : BitVec 32, IntOp.cmpi .sge v 0#32 = 1#1 → IntOp.cmpi .slt v 1024#32 = 1#1 → v.toNat < 1024 := by
    intro v e e'
    simp only [IntOp.cmpi, StableHlo.Predicate.ofBool_eq_one_iff, BitVec.sle_eq_decide, BitVec.slt_eq_decide,
      decide_eq_true_eq, BitVec.toInt_eq_toNat_cond, BitVec.toNat_ofNat, Nat.reducePow, Nat.reduceMod] at e e'
    omega
  exact key _ g1 g2

theorem range_bits {m : (ℓ : Loc Cert.Gather.nD Cert.Gather.τ Cert.Gather.sig) → Buf (Elt Bits) ℓ} (h : Cert.Pre_Gather m) :
    InRange m := fun d p => words_in_range _ _ (h d).1 (h d).2 p

theorem range_ideal {m : (ℓ : Loc Cert.GatherIdeal.nD Cert.GatherIdeal.τ Cert.GatherIdeal.sig) → Buf (Elt Ideal) ℓ} (h : Cert.Pre_GatherIdeal m) :
    InRange (F := Ideal) m := fun d p => words_in_range _ _ (h d).1 (h d).2 p

/-! ## The frames -/

theorem frame : Cert.quiescent_Gather := fun m g hpre =>
  (θ_run Cert.Gather.defs _ _).mono (fun _ h => ⟨fun c => (h.1 c).2, h.2⟩) (run_main (F := Bits) m g (range_bits hpre))

theorem run_ideal (m : (ℓ : Loc Cert.GatherIdeal.nD Cert.GatherIdeal.τ Cert.GatherIdeal.sig) → Buf (Elt Ideal) ℓ)
    (g : Dev Cert.GatherIdeal.nD → PrngReg) (hpre : InRange (F := Ideal) m) :
    θ_run (Cert.GatherIdeal.defs (F := Ideal)) (Cert.GatherIdeal.threads (F := Ideal)) ⟨m, fun _ => 0, g⟩ (GatherRun.QC (F := Ideal) m) :=
  run_main (F := Ideal) m g hpre

theorem frame_ideal : Cert.quiescent_GatherIdeal := fun m g hpre =>
  (θ_run Cert.GatherIdeal.defs _ _).mono (fun _ h => ⟨fun c => (h.1 c).2, h.2⟩) (run_ideal m g (range_ideal hpre))

/-! ## The reference -/

theorem reference_run (m : (ℓ : Loc Cert.GatherReference.nD Cert.GatherReference.τ Cert.GatherReference.sig) → Buf (Elt F) ℓ)
    (g : Dev Cert.GatherReference.nD → PrngReg)
    (h : ∀ (c : Dev Cert.GatherReference.nD) (p : Cert.GatherReference.S4608.Idx),
      (show BitVec 32 from m ((c.tc : Thread Cert.GatherReference.nD Cert.GatherReference.τ).loc Cert.GatherReference.main_arg1) p).toNat < 1024) :
    θ_run (Cert.GatherReference.defs (F := F)) (onTc (τ := Cert.GatherReference.τ) (Cert.GatherReference.main (F := F))) ⟨m, fun _ => 0, g⟩ fun r =>
      ∀ c : Dev Cert.GatherReference.nD,
        r.2.mem ((c.tc : Thread Cert.GatherReference.nD Cert.GatherReference.τ).loc Cert.GatherReference.main_v1)
          = picked (m ((c.tc : Thread Cert.GatherReference.nD Cert.GatherReference.τ).loc Cert.GatherReference.main_arg0))
              (m ((c.tc : Thread Cert.GatherReference.nD Cert.GatherReference.τ).loc Cert.GatherReference.main_arg1))
        ∧ r.2.mem ((c.tc : Thread Cert.GatherReference.nD Cert.GatherReference.τ).loc Cert.GatherReference.main_arg0)
          = m ((c.tc : Thread Cert.GatherReference.nD Cert.GatherReference.τ).loc Cert.GatherReference.main_arg0)
        ∧ r.2.mem ((c.tc : Thread Cert.GatherReference.nD Cert.GatherReference.τ).loc Cert.GatherReference.main_arg1)
          = m ((c.tc : Thread Cert.GatherReference.nD Cert.GatherReference.τ).loc Cert.GatherReference.main_arg1) :=
  (θ_run Cert.GatherReference.defs _ _).mono (fun _ hr c => ⟨(hr c).1.trans (reshape_take _ _ (h c) _), (hr c).2⟩)
    (Cert.GatherReference.Value.run m g)

theorem frame_reference : Cert.quiescent_GatherReference := fun m g _ =>
  (θ_run Cert.GatherReference.defs _ _).mono (fun r h => ⟨fun c => (h c).2, sem_eq_zero_of_no_sems (by decide) r.2⟩)
    (Cert.GatherReference.Value.run (F := Bits) m g)

theorem frame_reference_ideal : Cert.quiescent_GatherReferenceIdeal := fun m g _ =>
  (θ_run Cert.GatherReferenceIdeal.defs _ _).mono (fun r h => ⟨fun c => (h c).2, sem_eq_zero_of_no_sems (by decide) r.2⟩)
    (Cert.GatherReferenceIdeal.Value.run (F := Ideal) m g)

theorem frame_reference_ideal_in_range : Cert.quiescent_GatherReferenceIdeal_pre_in_range := fun m g _ =>
  frame_reference_ideal m g trivial

/-! ## The value claims -/

/-- On the same words: the rows that the call leaves are the rows that the host's look-up gives. -/
theorem bitexact : Cert.bitexact_Gather_GatherReference := fun m g m' g' hpre hagree =>
  ⟨fun c => V5 m c resR,
    (θ_run Cert.Gather.defs _ _).mono (fun _ h => h.1) (run_main (F := Bits) m g (range_bits hpre)),
    (θ_run Cert.GatherReference.defs _ _).mono
      (fun _ h c => ⟨((h c).1.trans (congrArg₂ picked (hagree c).1 (hagree c).2)).trans (V5_res m c).symm, (h c).2⟩)
      (reference_run m' g' fun c p => (congrArg (fun w : Cert.GatherReference.S4608.Idx → BitVec 32 => (w p).toNat < 1024) (hagree c).2).mpr
        (range_bits hpre c p))⟩

/-- The same over the extended reals. -/
theorem algebraic : Cert.algebraic_GatherIdeal_GatherReferenceIdeal := fun m g m' g' hpre hagree =>
  ⟨fun c => V5 (F := Ideal) m c resR,
    (θ_run Cert.GatherIdeal.defs _ _).mono (fun _ h => h.1) (run_ideal m g (range_ideal hpre)),
    (θ_run Cert.GatherReferenceIdeal.defs _ _).mono
      (fun _ h c => ⟨((h c).1.trans (congrArg₂ picked (hagree c).1 (hagree c).2)).trans (V5_res (F := Ideal) m c).symm, (h c).2⟩)
      (reference_run (F := Ideal) m' g' fun c p => (congrArg (fun w : Cert.GatherReference.S4608.Idx → BitVec 32 => (w p).toNat < 1024) (hagree c).2).mpr
        (range_ideal hpre c p))⟩

end Cert.Proof.GatherValue

end
-- ==== Proof.KernelRegion.lean ====
/-
  THE TENSORCORE CALL OF THE WHOLE KERNEL, as one step of its @main. The thread that makes it still owes the SparseCores
  their start, so its proof data carry that debt through unread, together with the bound on what its waits have
  recorded. `region_wp`: from the windows' arrays at contents `Vr` the call runs to them at what the body leaves, the
  codes and the loss at `out2`, `out3` of the two inputs' blocks, the debt unchanged.
-/
module

public import proofs.«01_k».proof.Defs
public import proofs.«01_k».proof.Proof.Call
public import Idealize.ShloMosaic.Lib.StableHlo.Run
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArrays
public import Idealize.ShloMosaic.Lib.Tactic

@[expose] public section

set_option maxRecDepth 16384

noncomputable section

namespace Cert.Proof.KernelRegion

open Cert.KernelIdeal Cert.KernelIdeal.Gen
open Cert.Proof.Tile (UU)

open Idealize.ShloMosaic Idealize.ShloMosaic.TcCoe Idealize.ShloMosaic.Tactic
open Idealize.ShloMosaic.SparseCore (S V T)
open Idealize.ShloMosaic.SparseCore.Cfg (HIx)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev UG : Type := UU nD τ sig

local notation "𝕄" => MT nD τ sig (HIx 1) (Elt F) ℕ UG ℕ

abbrev EH : Emb (URounds (GSem nD τ sig) ℕ) (MT nD τ sig (HIx 1) (Elt F) ℕ UG ℕ) := embL
/-- The staging buffers' ghost state: the second component's first. -/
def EP : Emb (URounds (GSem nD τ sig) Unit) (MT nD τ sig (HIx 1) (Elt F) ℕ UG ℕ) :=
  (Emb.inl : Emb (URounds (GSem nD τ sig) Unit) (URounds (GSem nD τ sig) Unit × Counters)).trans embR
instance EP_landsIn : (EP : Emb (URounds (GSem nD τ sig) Unit) 𝕄).LandsIn (upEmb : UEmb _ 𝕄) := by unfold EP; infer_instance

abbrev 𝒱₀ : Variants := Variants.none
abbrev 𝒱 : Variants := 𝒱₀.lift

/-- The prefetched tables: none. -/
abbrev adm : (p : Fin 1) → (pcfgs (F := F) p).Adm := fun p => (cfgs p).toPCfg_adm

variable [FloatOps F] [Named F]

abbrev D : Defs nD τ sig (Elt F) (ΛP (F := F)) := Pipeline.defs pcfgs defs₀

/-! ## The blocks -/

variable (Vr : (c : Dev nD) → (b : Ref sig .tc) → Buf (Elt F) ((c : Thread nD τ).loc b))

/-- Window `w`'s block, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (Vr c (Pipeline.arrRef spec0 w))

theorem before_in0 {c : Dev nD} (dat : Dat τ (Elt F) (HIx 1) ℕ UG ℕ cfg0 c) (hA : dat.A 0 = Vr c (Pipeline.arrRef spec0 0))
    (hafter : ∀ t, dat.after 0 t = blk Vr c 0 t) (t : Fin cfg0.N) (d) : dat.before 0 t d = blk Vr c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) (HIx 1) ℕ UG ℕ cfg0 c) (hA : dat.A 1 = Vr c (Pipeline.arrRef spec0 1))
    (hafter : ∀ t, dat.after 1 t = blk Vr c 1 t) (t : Fin cfg0.N) (d) : dat.before 1 t d = blk Vr c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body -/

abbrev r0 : Rect S4608x64 := Rect.unit (s := S4608x64) ![0, 0] S4608x64.size inb_S4608x64_S4608x64_0_0
abbrev r1 : Rect S1024x64 := Rect.unit (s := S1024x64) ![0, 0] S1024x64.size inb_S1024x64_S1024x64_0_0
abbrev r2 : Rect S4608 := Rect.unit (s := S4608) ![0] S4608.size inb_S4608_S4608_0
abbrev r3 : Rect S1x1 := Rect.unit (s := S1x1) ![0, 0] S1x1.size inb_S1x1_S1x1_0_0

/-- The codes the body leaves. -/
def out2 (x0 : Vec F S4608x64 .f32) (x1 : Vec F S1024x64 .f32) : Vec F S4608 .i32 :=
  View.canon [⟨r2, k0_pay3 (View.ld x0 r0) (View.ld x1 r1)⟩]
theorem cover2 (p0 : Vec F S4608 .i32) (y : S4608.Idx) :
    ∃ pc ∈ ([⟨r2, p0⟩] : List (View.Piece (Elt F) S4608 .i32)), y ∈ pc.1.set :=
  View.cover_of_tiled [⟨r2, p0⟩] S4608.size (by rfl) y
/-- The loss the body leaves. -/
def out3 (x0 : Vec F S4608x64 .f32) (x1 : Vec F S1024x64 .f32) : Vec F S1x1 .f32 :=
  View.canon [⟨r3, k0_pay4 (View.ld x0 r0) (View.ld x1 r1)⟩]
theorem cover3 (p0 : Vec F S1x1 .f32) (y : S1x1.Idx) :
    ∃ pc ∈ ([⟨r3, p0⟩] : List (View.Piece (Elt F) S1x1 .f32)), y ∈ pc.1.set :=
  View.cover_of_tiled [⟨r3, p0⟩] S1x1.size (by rfl) y

set_option maxHeartbeats 1000000 in
/-- The body on whole staging buffers: the inputs stay, the outputs end at `out2` and `out3` of them. -/
theorem sound_kernel (c : Dev nD) (E : Set ℕ) (arg0 : Memref sig .tc .vmem S4608x64 .f32) (harg0 : arg0.IsWhole) (arg1 : Memref sig .tc .vmem S1024x64 .f32) (harg1 : arg1.IsWhole)
    (arg2 : Memref sig .tc .vmem S4608 .i32) (harg2 : arg2.IsWhole) (arg3 : Memref sig .tc .vmem S1x1 .f32) (harg3 : arg3.IsWhole)
    (x0 : Vec F S4608x64 .f32) (x1 : Vec F S1024x64 .f32) (Q : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (out2 x0 x1) ∗ owns (c : Thread nD τ) arg3 fullShare (out3 x0 x1)) -∗ Q ⟨⟩))
      ⊢ wp frame (wpE (defs₀ (F := F)) Variants.none c none) E (cc0__dist_argmin_body arg0 harg0 arg1 harg1 arg2 harg2 arg3 harg3) Q := by
  simp only [cc0__dist_argmin_body_eq_skeleton]; unfold cc0__dist_argmin_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  iexists _; isplitr
  swap; · iexact H3
  ipureintro
  exact View.read_writes_eq_canon _ _ _ (cover3 _)

/-! ## The proof data -/

/-- What the thread's waits may have recorded before the first SparseCore call. -/
def below (c : Dev nD) : Set (SemLoc sig × HIx 1) := {p | (K (F := F)).lev (T c, p.1) p.2 ≤ 0}

/-- The call's proof data: the arrays as found, the buffers after the body, the debt carried through. -/
def dats (_ : Fin 1) (c : Dev nD) : Dat τ (Elt F) (HIx 1) ℕ UG ℕ cfg0 c where
  A w := Vr c (Pipeline.arrRef spec0 w)
  after w t := match w with
    | ⟨0, _⟩ => blk Vr c 0 t
    | ⟨1, _⟩ => blk Vr c 1 t
    | ⟨2, _⟩ => out2 (blk Vr c 0 t) (blk Vr c 1 t)
    | ⟨3, _⟩ => out3 (blk Vr c 0 t) (blk Vr c 1 t)
  Φ _ := Pipeline.scopedRest spec0 c
  q _ := fullShare
  owed _ := (K (F := F)).Otc c 0
  recorded _ := below (F := F) c

theorem A_eq (c : Dev nD) (w : Fin cfg0.W) : (dats Vr 0 c).A w = Vr c (Pipeline.arrRef spec0 w) := by dsimp only [dats]
theorem after_0 (c : Dev nD) (t : Fin cfg0.N) : (dats Vr 0 c).after 0 t = blk Vr c 0 t := by dsimp only [dats]
theorem after_1 (c : Dev nD) (t : Fin cfg0.N) : (dats Vr 0 c).after 1 t = blk Vr c 1 t := by dsimp only [dats]
theorem after_2 (c : Dev nD) (t : Fin cfg0.N) : (dats Vr 0 c).after 2 t = out2 (blk Vr c 0 t) (blk Vr c 1 t) := by dsimp only [dats]
theorem after_3 (c : Dev nD) (t : Fin cfg0.N) : (dats Vr 0 c).after 3 t = out3 (blk Vr c 0 t) (blk Vr c 1 t) := by dsimp only [dats]
theorem before_0 (c : Dev nD) (t : Fin cfg0.N) (d) : (dats Vr 0 c).before 0 t d = blk Vr c 0 t :=
  before_in0 Vr (dats Vr 0 c) (A_eq Vr c 0) (after_0 Vr c) t d
theorem before_1 (c : Dev nD) (t : Fin cfg0.N) (d) : (dats Vr 0 c).before 1 t d = blk Vr c 1 t :=
  before_in1 Vr (dats Vr 0 c) (A_eq Vr c 1) (after_1 Vr c) t d

/-! ## The body obligation -/

def bodyPre (c : Dev nD) (t : Fin cfg0.N) : sProp 𝕄 :=
  iprop((dats Vr 0 c).Φ t.castSucc ∗ (dats Vr 0 c).owesAt none t.castSucc
    ∗ (∃ d, owns (c : Thread nD τ) (st0_0 t) fullShare ((dats Vr 0 c).before 0 t d))
    ∗ (∃ d, owns (c : Thread nD τ) (st0_1 t) fullShare ((dats Vr 0 c).before 1 t d))
    ∗ (∃ d, owns (c : Thread nD τ) (st0_2 t) fullShare ((dats Vr 0 c).before 2 t d))
    ∗ (∃ d, owns (c : Thread nD τ) (st0_3 t) fullShare ((dats Vr 0 c).before 3 t d)))
def bodyPost (c : Dev nD) (t : Fin cfg0.N) : sProp 𝕄 :=
  iprop((dats Vr 0 c).Φ t.succ ∗ (dats Vr 0 c).owesAt none t.succ
    ∗ owns (c : Thread nD τ) (st0_0 t) fullShare ((dats Vr 0 c).after 0 t)
    ∗ owns (c : Thread nD τ) (st0_1 t) fullShare ((dats Vr 0 c).after 1 t)
    ∗ owns (c : Thread nD τ) (st0_2 t) fullShare ((dats Vr 0 c).after 2 t)
    ∗ owns (c : Thread nD τ) (st0_3 t) fullShare ((dats Vr 0 c).after 3 t))

theorem sound_body (c : Dev nD) (t : Fin cfg0.N) :
    bodyPre Vr c t ⊢ wp frame (wpE (defs₀ (F := F)) Variants.none c none) Set.univ (bodyAt0 t) (fun _ => bodyPost Vr c t) := by
  unfold bodyPre bodyPost bodyAt0
  simp only [before_0, before_1]
  rw [show (dats Vr 0 c).Φ t.succ = (dats Vr 0 c).Φ t.castSucc from rfl,
    show (dats Vr 0 c).owesAt none t.succ = (dats Vr 0 c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (blk Vr c 0 t) (blk Vr c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rfl

theorem body_obligation (c : Dev nD) : BodyObligation (dats (F := F) Vr 0 c) (defs₀ (F := F)) Variants.none none Set.univ := fun t => by
  rw [bigSep_W0, bigSep_W0, defs₀_row]
  exact triple_restated (sound_body Vr c t) rfl .rfl fun _ => .rfl

/-! ## The call as a step of @main -/

/-- The debt carried through sits on no staging wait. -/
theorem Otc_none (c : Dev nD) (g : GSem nD τ sig) : (K (F := F)).Otc (nD := nD) (N := 1) c 0 g none = 0 := by
  by_contra h
  have := (K (F := F)).lev_of_Otc_pos (Nat.pos_of_ne_zero h)
  exact absurd this (by simp [SparseCore.Cfg.lev])

theorem bound_below (c : Dev nD) (t : Fin (cfg0.N + 1)) : (dats (F := F) Vr 0 c).bound none t = below (F := F) c := by
  refine Set.union_eq_left.mpr ?_
  rintro p ⟨w, s, rfl⟩
  exact (Nat.le_refl 0 : 0 ≤ 0)

/-- What the thread owes and has recorded before the first SparseCore call. -/
abbrev debt (c : Dev nD) : sProp 𝕄 := Pipeline.owesWithin c ((K (F := F)).Otc c 0) (below (F := F) c)

theorem arrays_at (c : Dev nD) (G : (w : Fin cfg0.W) → Buf (Elt F) ((cfg0.win w).arr.view.loc (c.tc : Thread nD τ))) (W : Valuation τ sig (Elt F))
    (hG : ∀ w, G w = W (Proc.devRef .tc (Pipeline.arrRef spec0 w))) :
    ((dats (F := F) Vr 0 c).arrays G : sProp 𝕄) = held (c.tc : Thread nD τ) (Pipeline.arrRefs spec0) W :=
  Pipeline.arrays_held (Ix := HIx 1) (Name := ℕ) (U := UG) (Lvl := ℕ) (pcfgs (F := F)) adm (fun p c => dats Vr p c) 0 launch0.toP c (fun w => (dats Vr 0 c).share_full (fun _ => rfl) w) G W hG

def seg (W W' : Dev nD → Valuation τ sig (Elt F))
    (hW : ∀ c w, (dats Vr 0 c).arrAt w 0 = W c (Proc.devRef .tc (Pipeline.arrRef spec0 w)))
    (hW' : ∀ c w, (dats Vr 0 c).arrAt w cfg0.N = W' c (Proc.devRef .tc (Pipeline.arrRef spec0 w))) :
    Pipeline.RegionSeg (pcfgs (F := F)) adm (fun p c => dats Vr p c) none (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody c := (body_obligation Vr c).loose
  hwaits c := Pipeline.cellsWaits_intro _ _ _ _ _ fun w s t => (K (F := F)).mayWait_none _ (Otc_none c)
  pre c := iprop(held (c.tc : Thread nD τ) (Pipeline.arrRefs spec0) (W c) ∗ debt c)
  post c := iprop(held (c.tc : Thread nD τ) (Pipeline.arrRefs spec0) (W' c) ∗ debt c)
  X _ := iprop(emp)
  Y _ := iprop(emp)
  Z _ := iprop(emp)
  hentry c := by
    rw [Pipeline.ownSems0_none, Pipeline.prefHeld_of_none _ rfl, ← arrays_at Vr c ((dats Vr 0 c).arrAt · 0) (W c) (hW c)]
    iintro ⟨⟨Ha, HO⟩, -, -⟩
    imodintro
    isplitl [Ha]; · iexact Ha
    isplitr; · iempintro
    isplitl [HO]
    · unfold Dat.owesAt; rw [bound_below]; iexact HO
    isplitr <;> iempintro
  hin c := by
    change _ ⊢ Pipeline.scopedRest spec0 c
    iintro ⟨-, -, Hr⟩
    iexact Hr
  hout c := by
    change Pipeline.scopedRest spec0 c ⊢ _
    rw [Pipeline.ownSems0_none]
    iintro Hr
    isplitr; · iempintro
    isplitr; · iempintro
    iexact Hr
  hexit c := by
    rw [← arrays_at Vr c ((dats Vr 0 c).arrAt · cfg0.N) (W' c) (hW' c)]
    iintro ⟨Ha, HO, -, -⟩
    imodintro
    isplitl [Ha]; · iexact Ha
    unfold Dat.owesAt; rw [bound_below]; iexact HO

theorem pipe_inj : Function.Injective (cellOf (nD := nD) (τ := τ) (Pipeline.pin (pcfgs (F := F)) adm)) := cellOf_inj

/-- The staging buffers' ghost state the call consumes. -/
abbrev ghost (c : Dev nD) : sProp 𝕄 :=
  iprop(Pipeline.cellsGhost (Pipeline.pin (pcfgs (F := F)) adm) (EP (F := F)) 0 c ∗ Pipeline.toksInit (Pipeline.pin (pcfgs (F := F)) adm) (EP (F := F)) 0 c)

/-- The call in the pipelines' own program, and as @main makes it. -/
abbrev entryCall : Prog (TpuEff nD τ sig (Elt F) (ΛP (F := F)) .tc) PUnit := .op (.customCall (Pipeline.entry 0) ()) fun x => .ret x
theorem lift_entry : (SparseCore.liftProg (Q := 1) (entryCall (F := F)) : Prog (TpuEff nD τ sig (Elt F) (SparseCore.Sig (ΛP (F := F)) 1) .tc) PUnit)
    = Prog.lift (.customCall (SparseCore.inner (Pipeline.entry 0)) ()) := rfl

/-- The call: its four arrays go from `W` to `W'`. -/
theorem region_wp [∀ e, Nonempty (Elt F e)] (W W' : Dev nD → Valuation τ sig (Elt F))
    (hW : ∀ c w, (dats Vr 0 c).arrAt w 0 = W c (Proc.devRef .tc (Pipeline.arrRef spec0 w)))
    (hW' : ∀ c w, (dats Vr 0 c).arrAt w cfg0.N = W' c (Proc.devRef .tc (Pipeline.arrRef spec0 w))) (c : Dev nD) (Q : PUnit → sProp 𝕄) :
    iprop((iprop(boundary (T c) ∗ held (T c) (Pipeline.arrRefs spec0) (W' c) ∗ debt c) -∗ Q ⟨⟩)
        ∗ boundary (T c) ∗ (held (T c) (Pipeline.arrRefs spec0) (W c) ∗ debt c) ∗ levAts (K (F := F)).L (K (F := F)).lev ∗ ghost c)
      ⊢ wp frame (wpE ((K (F := F)).defs (D (F := F))) 𝒱 (T c) none) Set.univ
          (Prog.lift (.customCall (SparseCore.inner (Pipeline.entry 0)) ())) Q := by
  rw [← lift_entry]
  have h2 := (K (F := F)).wp_liftProg (N := 1) (D (F := F)) 𝒱 (T c) Set.univ none (entryCall (F := F)) Q
  refine BI.Entails.trans ?_ h2
  have h := Pipeline.RegionSeg.wp (Name := ℕ) (U := UG) (pcfgs (F := F)) adm (fun p c => dats Vr p c) none pipe_inj (EP (F := F)) (defs₀ (F := F)) 𝒱₀ (K (F := F)).L (K (F := F)).lev
    (seg Vr W W' hW hW') c none (fun u hu => absurd hu (Option.not_mem_none u)) (fun x => .ret x) Q
  rw [wp_ret] at h
  exact (BIClass.sep_mono (wand_mono .rfl fupd_intro) .rfl).trans h

end Cert.Proof.KernelRegion

end
-- ==== Proof.KernelRun.lean ====
/-
  THE WHOLE KERNEL'S RUN, once for any float values: @main takes the latents as rows, makes the TensorCore call
  (KernelRegion.lean), pads the codebook with 64 lanes of zeros, makes the SparseCore call on the codes the TensorCore call
  left, keeps the first 64 lanes of what it leaves, and reads the loss off the 1 by 1 array. `run_main`: if every code is
  below 1024, every weakly fair execution terminates with the results as `V6` has them, the arguments unchanged and
  every semaphore counter back at zero.
-/
module

public import proofs.«01_k».proof.Proof.KernelRegion
public import Idealize.ShloMosaic.Lib.Pipeline.ValueKit.Geometry

@[expose] public section

noncomputable section

namespace Cert.Proof.KernelRun

open Cert.KernelIdeal Cert.KernelIdeal.Gen
open Cert.Proof.Tile (callPts taskPts gathered gatherOut UU)
open Cert.Proof.KernelRegion

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

theorem nSub_zero : (K (F := F)).nSub 0 = 16 := rfl
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UG ℕ

abbrev xM : Memref sig .scVector .hbm S1024x128 .f32 := Memref.whole main_v2_scv
abbrev iM : Memref sig .scVector .hbm S4608 .i32 := Memref.whole main_v1_0_scv
abbrev oM : Memref sig .scVector .hbm S8x576x128 .f32 := Memref.whole main_v3_scv
abbrev lM : Memref sig .scVector .vmem S288 .i32 := Memref.whole cc1_scratch0
abbrev rM : Memref sig .scVector .vmem S288x128 .f32 := Memref.whole cc1_scratch1

/-! ## The contents from step to step -/

variable (m : (ℓ : Loc nD τ sig) → Buf (Elt F) ℓ) (ρ : Dev nD → PrngReg)

abbrev latR : DevRef τ sig := Proc.tc.devRef main_arg0
abbrev cbR : DevRef τ sig := Proc.tc.devRef main_arg1
abbrev rowR : DevRef τ sig := Proc.tc.devRef main_v0
abbrev idxR : DevRef τ sig := Proc.tc.devRef main_v1_0
abbrev sumR : DevRef τ sig := Proc.tc.devRef main_v1_1
abbrev cR : DevRef τ sig := Proc.tc.devRef main_c
abbrev zR : DevRef τ sig := Proc.tc.devRef main_call0_v0
abbrev tabR : DevRef τ sig := Proc.tc.devRef main_v2
abbrev outR : DevRef τ sig := Proc.tc.devRef main_v3
abbrev resR : DevRef τ sig := Proc.tc.devRef main_v4
abbrev lossR : DevRef τ sig := Proc.tc.devRef main_v5

/-- @main's eleven arrays; the three of the SparseCore call; the four that the claims read. -/
abbrev SAll : Finset (DevRef τ sig) := {latR, cbR, rowR, idxR, sumR, cR, zR, tabR, outR, resR, lossR}
abbrev SCall : Finset (DevRef τ sig) := {idxR, tabR, outR}
abbrev SRes : Finset (DevRef τ sig) := {latR, cbR, resR, lossR}

variable [FloatOps F] [Named F]

/-- @main's operations on the host. -/
abbrev opRow : HloOp τ sig (Elt F) := StableHlo.reshape main_arg0 main_v0 (rfl : (.f32 : EltTy) = .f32) Facts₀.shapeCasts_S8x576x64_S4608x64
abbrev opC : HloOp τ sig (Elt F) := StableHlo.nullary main_c (constantI S_ 32 0#32)
abbrev opZ : HloOp τ sig (Elt F) := StableHlo.TRef.unary (.of main_c) main_call0.v0 (sitofp .f32)
abbrev opPad : HloOp τ sig (Elt F) :=
  StableHlo.TRef.binary (.of main_arg1 : StableHlo.TRef sig ⟨S1024x64, .f32⟩) main_call0.v0 main_call0.v1
    (fun x v => pad S1024x128 ![0, 0] ![0, 64] ![0, 0] x v Facts₀.pads_S1024x64_S1024x128_000_0640 Facts₀.h_S_)
abbrev opSl : HloOp τ sig (Elt F) :=
  StableHlo.unary main_v3 main_v4 ((extractStridedSlice S8x576x64 ![0, 0, 0] · Facts₀.slices_S8x576x128_S8x576x64_0_0_0)
    : (⟨S8x576x128, .f32⟩ : BufTy).Contents (Elt F) → (⟨S8x576x64, .f32⟩ : BufTy).Contents (Elt F))
abbrev opLoss : HloOp τ sig (Elt F) := StableHlo.reshape main_v1_1 main_v5 (rfl : (.f32 : EltTy) = .f32) Facts₀.shapeCasts_S1x1_S_

def V0 (d : Dev nD) : Valuation τ sig (Elt F) := fun b => m (d, b)
def V1 (d : Dev nD) : Valuation τ sig (Elt F) := (opRow (F := F)).result (V0 m d)

/-- What the TensorCore call finds in its arrays, and what it leaves. -/
def Vr (d : Dev nD) (b : Ref sig .tc) : Buf (Elt F) ((d : Thread nD τ).loc b) := V1 m d (Proc.tc.devRef b)
def codes (d : Dev nD) : Vec F S4608 .i32 := out2 (blk (Vr m) d 0 t0_0) (blk (Vr m) d 1 t0_0)
def sums (d : Dev nD) : Vec F S1x1 .f32 := out3 (blk (Vr m) d 0 t0_0) (blk (Vr m) d 1 t0_0)
def V2 (d : Dev nD) : Valuation τ sig (Elt F) := Function.update (Function.update (V1 m d) idxR (codes m d)) sumR (sums m d)
def V3 (d : Dev nD) : Valuation τ sig (Elt F) := (opPad (F := F)).result ((opZ (F := F)).result ((opC (F := F)).result (V2 m d)))

/-- The result's buffer of the SparseCore call after it. -/
def callOut (d : Dev nD) : outR.ty.Contents (Elt F) := gathered d 0 0 xM iM oM (V3 m d tabR) (V3 m d idxR) (V3 m d outR)
def V4 (d : Dev nD) : Valuation τ sig (Elt F) := Function.update (V3 m d) outR (callOut m d)
def V5 (d : Dev nD) : Valuation τ sig (Elt F) := (opSl (F := F)).result (V4 m d)
def V6 (d : Dev nD) : Valuation τ sig (Elt F) := (opLoss (F := F)).result (V5 m d)

theorem V1_of_ne (d : Dev nD) {b : DevRef τ sig} (h : b ≠ rowR) : V1 m d b = m (d, b) := by
  unfold V1
  rw [(opRow (F := F)).result_of_not_mem _ (show b ∉ ({rowR} : Finset (DevRef τ sig)) by simpa using h)]
  rfl
theorem V2_of_ne (d : Dev nD) {b : DevRef τ sig} (h1 : b ≠ idxR) (h2 : b ≠ sumR) : V2 m d b = V1 m d b := by
  unfold V2
  rw [Function.update_of_ne h2, Function.update_of_ne h1]
theorem V2_idx (d : Dev nD) : V2 m d idxR = codes m d := by
  unfold V2
  rw [Function.update_of_ne (show idxR ≠ sumR by decide), Function.update_self]
theorem V2_sum (d : Dev nD) : V2 m d sumR = sums m d := by
  unfold V2
  rw [Function.update_self]
theorem V3_of_ne (d : Dev nD) {b : DevRef τ sig} (h1 : b ≠ cR) (h2 : b ≠ zR) (h3 : b ≠ tabR) : V3 m d b = V2 m d b := by
  unfold V3
  rw [(opPad (F := F)).result_of_not_mem _ (show b ∉ ({tabR} : Finset (DevRef τ sig)) by simpa using h3),
    (opZ (F := F)).result_of_not_mem _ (show b ∉ ({zR} : Finset (DevRef τ sig)) by simpa using h2),
    (opC (F := F)).result_of_not_mem _ (show b ∉ ({cR} : Finset (DevRef τ sig)) by simpa using h1)]
theorem V3_idx (d : Dev nD) : V3 m d idxR = codes m d := (V3_of_ne m d (by decide) (by decide) (by decide)).trans (V2_idx m d)
theorem V5_of_ne (d : Dev nD) {b : DevRef τ sig} (h1 : b ≠ resR) (h2 : b ≠ outR) : V5 m d b = V3 m d b := by
  unfold V5 V4
  rw [(opSl (F := F)).result_of_not_mem _ (show b ∉ ({resR} : Finset (DevRef τ sig)) by simpa using h1), Function.update_of_ne h2]
theorem V6_of_ne (d : Dev nD) {b : DevRef τ sig} (h : b ≠ lossR) : V6 m d b = V5 m d b := by
  unfold V6
  rw [(opLoss (F := F)).result_of_not_mem _ (show b ∉ ({lossR} : Finset (DevRef τ sig)) by simpa using h)]
theorem V6_lat (d : Dev nD) : V6 m d latR = m (d, latR) :=
  (V6_of_ne m d (by decide)).trans ((V5_of_ne m d (by decide) (by decide)).trans
    ((V3_of_ne m d (by decide) (by decide) (by decide)).trans ((V2_of_ne m d (by decide) (by decide)).trans (V1_of_ne m d (by decide)))))
theorem V6_cb (d : Dev nD) : V6 m d cbR = m (d, cbR) :=
  (V6_of_ne m d (by decide)).trans ((V5_of_ne m d (by decide) (by decide)).trans
    ((V3_of_ne m d (by decide) (by decide) (by decide)).trans ((V2_of_ne m d (by decide) (by decide)).trans (V1_of_ne m d (by decide)))))

/-! ## What the handshakes carry -/

/-- The call takes its three arrays whole and brings them back, the result's at the gathered array; a task likewise its
    parts of them. -/
def P : (K (F := F)).Pay (nD := nD) (Val := Elt F) (Name := ℕ) (U := UG) where
  st := fun q d _ => match q with | 0 => callPts d 0 0 xM iM oM (V3 m d tabR) (V3 m d idxR) (V3 m d outR)
  dn := fun q d _ => match q with | 0 => callPts d 0 0 xM iM oM (V3 m d tabR) (V3 m d idxR) (callOut m d)
  go := fun q d _ i => match q with | 0 => taskPts d 0 0 xM iM oM (Fin.cast nSub_zero i) (V3 m d tabR) (V3 m d idxR) (V3 m d outR)
  td := fun q d _ i => match q with | 0 => taskPts d 0 0 xM iM oM (Fin.cast nSub_zero i) (V3 m d tabR) (V3 m d idxR) (callOut m d)
  x := fun _ _ => iprop(emp)

instance P_storable : (P (F := F) m).IsStorable where
  st q d _ := match q with | 0 => Tile.callPts_storable d 0 0 xM iM oM (V3 m d tabR) (V3 m d idxR) (V3 m d outR)
  dn q d _ := match q with | 0 => Tile.callPts_storable d 0 0 xM iM oM (V3 m d tabR) (V3 m d idxR) (callOut m d)
  go q d _ i := match q with
    | 0 => Tile.taskPts_storable d 0 0 xM iM oM (Fin.cast nSub_zero i) (V3 m d tabR) (V3 m d idxR) (V3 m d outR)
  td q d _ i := match q with
    | 0 => Tile.taskPts_storable d 0 0 xM iM oM (Fin.cast nSub_zero i) (V3 m d tabR) (V3 m d idxR) (callOut m d)

/-- What the run asks of the codes: every one names a row of the codebook. -/
def InRange : Prop := ∀ (d : Dev nD) (p : S4608.Idx), (show BitVec 32 from codes m d p).toNat < 1024

/-! ## The task -/

section Task

variable (d : Dev nD) (L : grid1.Coords)

abbrev cV (L : grid1.Coords) : Fin τ.nSC := (L 0).castLE Facts₀.hcore1
abbrev jV (L : grid1.Coords) : Fin τ.nSub := (L 1).castLE Facts₀.hsub1
omit [FloatOps F] in
theorem bound_one : grid1.bound 1 = 16 := rfl
abbrev jL (L : grid1.Coords) : Fin 16 := Fin.cast bound_one (L 1)

omit [FloatOps F] in
theorem off1_eq : k1_off1 L = Tile.wordsOff (jL L) := by
  have h0 : (L 0).val = 0 := Nat.lt_one_iff.mp (L 0).isLt
  rw [k1_off1_eq, h0]; rfl
omit [FloatOps F] in
theorem off2_eq : ∀ L : grid1.Coords, k1_off2 L = Tile.blockOff (jL L) := by decide +kernel

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (lM).view.loc (V d (cV L) (jV L)) ↦[(lM).view.set]{fullShare} f) ∗ (∃ f, (rM).view.loc (V d (cV L) (jV L)) ↦[(rM).view.set]{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  rw [show (lM).view.set = Finset.univ from View.set_whole _, show (rM).view.set = Finset.univ from View.set_whole _]
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
/-- The list of row numbers as the subcores read it is the array itself. -/
theorem read_below (f : idxR.ty.Contents (Elt F)) (h : ∀ p : S4608.Idx, (show BitVec 32 from f p).toNat < 1024) :
    ∀ p, ((iM).view.read (Elt F) f p).toNat < 1024 := fun p => h p

/-- The task on vector subcore `(L 0, L 1)` of device `d`. -/
theorem tile_body (hF : (K (F := F)).Facts) (hpre : InRange m) (O : CellTallies nD τ sig (HIx 1)) (W : Waits sig (HIx 1)) (hO : ∀ g, O g none = 0) :
    iprop(levAts (K (F := F)).L (K (F := F)).lev ∗ emp
        ∗ taskPts d 0 0 xM iM oM (jL L) (V3 m d tabR) (V3 m d idxR) (V3 m d outR)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L xM (Memref.isWhole_whole _) iM (Memref.isWhole_whole _) oM (Memref.isWhole_whole _)
            lM (Memref.isWhole_whole _) rM (Memref.isWhole_whole _) cc1_scratch2 cc1_scoped0 cc1_scoped1)
          fun _ => (iprop(taskPts d 0 0 xM iM oM (jL L) (V3 m d tabR) (V3 m d idxR) (callOut m d)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  have hin := read_below (V3 m d idxR) fun p => by rw [V3_idx]; exact hpre d p
  have hN : ∑ j, ((rM).slice (Tile.SRows.rowRect Tile.gathers.axis' j) (Tile.SRows.stride_rowRect Tile.gathers.axis' j)).view.dmaCredit
      = (rM).view.dmaCredit := by decide
  iintro ⟨#Hlv, -, Ht, ⟨⟨%fs, Hs⟩, ⟨%fr, Hr⟩, Hbufs⟩, ⟨HA, HB, HC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply ((Tile.task_run d (cV L) (jV L) xM iM oM lM (Memref.isWhole_whole _) rM (Memref.isWhole_whole _) cc1_scoped0.sem cc1_scratch2.sem cc1_scoped1.sem
      (k1_off1_inb L) (k1_off2_inb L) (defs := defs₀ (F := F)) (𝒱₀ := 𝒱₀) (O := O) (W := W) (jL L) (off1_eq L) (off2_eq L)
      (V3 m d tabR) (V3 m d idxR) (V3 m d outR) fs fr hin hN).trans (wp_wand frame _ _)) $$ [Hmw Ht Hs Hr HA HB HC HO]
  · isplitl [Hmw]; · iexact Hmw
    isplitl [Ht]; · iexact Ht
    isplitl [Hs]; · iexact Hs
    isplitl [Hr]; · iexact Hr
    isplitl [HA]; · iexact HA
    isplitl [HB]; · iexact HB
    isplitl [HC]; · iexact HC
    iexact HO
  iintro %_ ⟨Ht, Hs, Hr, HA, HB, HC, HO⟩
  isplitl [Ht]; · iexact Ht
  isplitl [Hs Hr Hbufs]
  · isplitl [Hs]; · iexact Hs
    isplitl [Hr]; · iexact Hr
    iexact Hbufs
  isplitl [HA HB HC Hsems]
  · isplitl [HA]; · iexact HA
    isplitl [HB]; · iexact HB
    isplitl [HC]; · iexact HC
    iexact Hsems
  iexact HO

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile Facts₀.hcore1 Facts₀.hsub1 (fun c s => cc1__sc_gather_body (coordsV c s)
          xM (Memref.isWhole_whole _) iM (Memref.isWhole_whole _) oM (Memref.isWhole_whole _)
          lM (Memref.isWhole_whole _) rM (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRange m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Task

/-! ## The call's arrays split among its tasks -/

theorem tasks_eq (d : Dev nD) (fo : outR.ty.Contents (Elt F)) :
    (bigSep Finset.univ fun i : Fin ((K (F := F)).nSub 0) =>
        (taskPts d 0 0 xM iM oM (Fin.cast nSub_zero i) (V3 m d tabR) (V3 m d idxR) fo : sProp 𝕄))
      = callPts d 0 0 xM iM oM (V3 m d tabR) (V3 m d idxR) fo :=
  (bigSep_congr fun _ _ => rfl).trans (Tile.call_split d 0 0 xM iM oM (V3 m d tabR) (V3 m d idxR) fo).symm

theorem vecSplit : (K (F := F)).VecSplit' (P m) 0 := by
  intro d c
  show callPts d 0 0 xM iM oM (V3 m d tabR) (V3 m d idxR) (V3 m d outR) ⊢ |={Set.univ}=> iprop(
      (bigSep Finset.univ fun i : Fin ((K (F := F)).nSub 0) =>
        (taskPts d 0 0 xM iM oM (Fin.cast nSub_zero i) (V3 m d tabR) (V3 m d idxR) (V3 m d outR) : sProp 𝕄))
      ∗ ((bigSep Finset.univ fun i : Fin ((K (F := F)).nSub 0) =>
          (taskPts d 0 0 xM iM oM (Fin.cast nSub_zero i) (V3 m d tabR) (V3 m d idxR) (callOut m d) : sProp 𝕄))
          -∗ callPts d 0 0 xM iM oM (V3 m d tabR) (V3 m d idxR) (callOut m d)))
  rw [tasks_eq, tasks_eq]
  iintro H; imodintro
  isplitl [H]; · iexact H
  iintro H; iexact H

/-! ## The launch element of the certificate's ghost state -/

def u₀ : UG := (initOf (K (F := F)).hsCells (K (F := F)).hsToks,
  (initOf (Pipeline.cells (Pipeline.pin (pcfgs (F := F)) adm) pipe_inj) (Pipeline.launchToks (Pipeline.pin (pcfgs (F := F)) adm) pipe_inj), 1))

omit [FloatOps F] [Named F] in
theorem bigSep_none {I : Type} (s : Finset I) : (bigSep s fun _ => iprop(emp)) = (iprop(emp) : sProp 𝕄) := bigSep_emp_const s

omit [FloatOps F] [Named F] in
/-- The second part of a launch element funds the staging's rounds. -/
theorem own_EP (a : URounds (GSem nD τ sig) Unit) :
    (BI.own ((embR : Emb (URounds (GSem nD τ sig) Unit × Counters) (MT nD τ sig (HIx 1) (Elt F) ℕ UG ℕ)) (a, 1)) : sProp 𝕄) = BI.own (EP a) := rfl

theorem fund_ghost :
    (BI.own (EP (initOf (Pipeline.cells (Pipeline.pin (pcfgs (F := F)) adm) pipe_inj) (Pipeline.launchToks (Pipeline.pin (pcfgs (F := F)) adm) pipe_inj))) : sProp 𝕄)
      ⊢ |={Set.univ}=> bigSep Finset.univ fun d : Dev nD => ghost (F := F) d := by
  iintro H
  imod (Pipeline.fund_ghost (Pipeline.pin (pcfgs (F := F)) adm) EP pipe_inj) $$ H with ⟨H1, H2⟩
  imodintro
  unfold ghost
  rw [bigSep_sep']
  isplitl [H1]
  · iapply (Entails.of_eq (bigSep_congr fun _ _ => bigSep_univ_of_subsingleton (0 : Fin 1))) $$ H1
  · iapply (Entails.of_eq (bigSep_congr fun _ _ => bigSep_univ_of_subsingleton (0 : Fin 1))) $$ H2

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  generalize hp : initOf (Pipeline.cells (Pipeline.pin (pcfgs (F := F)) adm) pipe_inj) (Pipeline.launchToks (Pipeline.pin (pcfgs (F := F)) adm) pipe_inj) = p
  iintro Hu
  ihave H := (ownU_pair (initOf (K (F := F)).hsCells (K (F := F)).hsToks) ((p, 1) : URounds (GSem nD τ sig) Unit × Counters)) $$ Hu
  icases H with ⟨HH, HP⟩
  ihave HP' := (Entails.of_eq (own_EP (F := F) p)) $$ HP
  subst hp
  imod (fund_ghost (F := F)) $$ HP' with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The TensorCore call's arrays before and after it -/

theorem region_in (c : Dev nD) (w : Fin cfg0.W) : (dats (F := F) (Vr m) 0 c).arrAt w 0 = V1 m c (Proc.devRef .tc (Pipeline.arrRef spec0 w)) :=
  A_eq (Vr m) c w

theorem region_codes (c : Dev nD) : (dats (F := F) (Vr m) 0 c).arrAt 2 cfg0.N = codes m c := by
  unfold codes
  generalize h : out2 (blk (Vr m) c 0 t0_0) (blk (Vr m) c 1 t0_0) = x
  refine (dats (F := F) (Vr m) 0 c).arrAt_eq_of_after_last 2 t0_0 (by decide +kernel) _ fun j => ?_
  rw [after_2, h]; rfl

theorem region_sums (c : Dev nD) : (dats (F := F) (Vr m) 0 c).arrAt 3 cfg0.N = sums m c := by
  unfold sums
  generalize h : out3 (blk (Vr m) c 0 t0_0) (blk (Vr m) c 1 t0_0) = x
  refine (dats (F := F) (Vr m) 0 c).arrAt_eq_of_after_last 3 t0_0 (by decide +kernel) _ fun j => ?_
  rw [after_3, h]; rfl

theorem region_out (c : Dev nD) (w : Fin cfg0.W) : (dats (F := F) (Vr m) 0 c).arrAt w cfg0.N = V2 m c (Proc.devRef .tc (Pipeline.arrRef spec0 w)) :=
  match w with
  | 0 => ((dats (F := F) (Vr m) 0 c).arrAt_in 0 rfl _).trans ((A_eq (Vr m) c 0).trans (V2_of_ne m c (b := rowR) (by decide) (by decide)).symm)
  | 1 => ((dats (F := F) (Vr m) 0 c).arrAt_in 1 rfl _).trans ((A_eq (Vr m) c 1).trans (V2_of_ne m c (b := cbR) (by decide) (by decide)).symm)
  | 2 => (region_codes m c).trans (V2_idx m c).symm
  | 3 => (region_sums m c).trans (V2_sum m c).symm

/-! ## @main on the TensorCore -/

omit [FloatOps F] [Named F] in
theorem held_insert {d : Dev nD} {b : DevRef τ sig} {A : Finset (DevRef τ sig)} (h : b ∉ A) (W : Valuation τ sig (Elt F)) :
    (held (SparseCore.T d) (insert b A) W : sProp 𝕄) = iprop(((d, b) ↦{fullShare} W b) ∗ held (SparseCore.T d) A W) :=
  SparseCore.bigSep_insert' h

theorem unscoped_held (d : Dev nD) : (unscopedBufs d (fun b => m ((SparseCore.T d).loc b)) : sProp 𝕄) = held (SparseCore.T d) SAll (V0 m d) := by
  unfold unscopedBufs
  rw [show (Finset.univ.filter fun b : Ref sig .tc => ¬ b.isScoped)
      = {main_arg0, main_arg1, main_v0, main_v1_0, main_v1_1, main_c, main_call0_v0, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton,
    held_insert (by decide), held_insert (by decide), held_insert (by decide), held_insert (by decide), held_insert (by decide), held_insert (by decide),
    held_insert (by decide), held_insert (by decide), held_insert (by decide), held_insert (by decide)]
  unfold held
  rw [bigSep_singleton]
  rfl

/-- The SparseCore call's three arrays, as the call takes them. -/
theorem held_call (d : Dev nD) (W : Valuation τ sig (Elt F)) :
    (held (SparseCore.T d) SCall W : sProp 𝕄) = callPts d 0 0 xM iM oM (W tabR) (W idxR) (W outR) := by
  rw [held_insert (by decide), held_insert (by decide)]
  unfold callPts held
  rw [bigSep_singleton, show (xM).view.set = Finset.univ from View.set_whole _, show (iM).view.set = Finset.univ from View.set_whole _,
    show (oM).view.set = Finset.univ from View.set_whole _]

theorem st0_eq (d : Dev nD) : (bigSep Finset.univ fun c : Fin ((K (F := F)).nCore 0) => (P m).st 0 d c)
    = callPts d 0 0 xM iM oM (V3 m d tabR) (V3 m d idxR) (V3 m d outR) :=
  bigSep_univ_of_subsingleton (0 : Fin 1)
theorem dn0_eq (d : Dev nD) : (bigSep Finset.univ fun c : Fin ((K (F := F)).nCore 0) => (P m).dn 0 d c)
    = callPts d 0 0 xM iM oM (V3 m d tabR) (V3 m d idxR) (callOut m d) :=
  bigSep_univ_of_subsingleton (0 : Fin 1)

theorem held_before (d : Dev nD) :
    (held (SparseCore.T d) SAll ((opPad (F := F)).result ((opZ (F := F)).result ((opC (F := F)).result (V2 m d)))) : sProp 𝕄)
    = iprop(callPts d 0 0 xM iM oM (V3 m d tabR) (V3 m d idxR) (V3 m d outR) ∗ held (SparseCore.T d) (SAll \ SCall) (V3 m d)) := by
  rw [show (opPad (F := F)).result ((opZ (F := F)).result ((opC (F := F)).result (V2 m d))) = V3 m d from rfl,
    held_sub_split (SparseCore.T d) (show SCall ⊆ SAll by decide), held_call]

theorem held_after (d : Dev nD) : (held (SparseCore.T d) SAll (V4 m d) : sProp 𝕄)
    = iprop(callPts d 0 0 xM iM oM (V3 m d tabR) (V3 m d idxR) (callOut m d) ∗ held (SparseCore.T d) (SAll \ SCall) (V3 m d)) := by
  rw [held_sub_split (SparseCore.T d) (show SCall ⊆ SAll by decide), held_call]
  unfold V4
  rw [Function.update_self, Function.update_of_ne (show tabR ≠ outR by decide), Function.update_of_ne (show idxR ≠ outR by decide)]
  rw [held_congr (SparseCore.T d) fun b (hb : b ∈ SAll \ SCall) => Function.update_of_ne (show b ≠ outR from fun e => by
    subst e; exact absurd hb (by decide)) (callOut m d) (V3 m d)]

theorem held_region (d : Dev nD) : (held (SparseCore.T d) SAll ((opRow (F := F)).result (V0 m d)) : sProp 𝕄)
    = iprop(held (SparseCore.T d) (Pipeline.arrRefs spec0) (V1 m d) ∗ held (SparseCore.T d) (SAll \ Pipeline.arrRefs spec0) (V1 m d)) :=
  held_sub_split (SparseCore.T d) (show Pipeline.arrRefs spec0 ⊆ SAll by decide) (V := V1 m d)

theorem held_region_out (d : Dev nD) : (held (SparseCore.T d) SAll (V2 m d) : sProp 𝕄)
    = iprop(held (SparseCore.T d) (Pipeline.arrRefs spec0) (V2 m d) ∗ held (SparseCore.T d) (SAll \ Pipeline.arrRefs spec0) (V1 m d)) := by
  rw [held_sub_split (SparseCore.T d) (show Pipeline.arrRefs spec0 ⊆ SAll by decide),
    held_congr (SparseCore.T d) fun b (hb : b ∈ SAll \ Pipeline.arrRefs spec0) => V2_of_ne m d
      (show b ≠ idxR from fun e => by subst e; exact absurd hb (by decide)) (show b ≠ sumR from fun e => by subst e; exact absurd hb (by decide))]

/-- What the thread owes the SparseCores, out of its state before the call and back. -/
theorem debt_out (d : Dev nD) : ((K (F := F)).tcSt EH d 0 : sProp 𝕄) ⊢ iprop(debt (F := F) d ∗ (debt (F := F) d -∗ (K (F := F)).tcSt EH d 0)) := by
  unfold SparseCore.Cfg.tcSt debt Pipeline.owesWithin
  iintro ⟨⟨%W, %hW, HO⟩, Hrest⟩
  isplitl [HO]
  · iexists W
    isplitr
    · ipureintro; exact fun p hp => hW p hp
    · iexact HO
  iintro ⟨%W', %hW', HO⟩
  isplitl [HO]
  · iexists W'
    isplitr
    · ipureintro; exact fun p hp => hW' hp
    · iexact HO
  iexact Hrest

/-- What @main leaves the claims: its arrays at their final contents. -/
abbrev FIN (d : Dev nD) : sProp 𝕄 := held (SparseCore.T d) SAll (V6 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, Hg⟩
  iapply (wp_hlo_within 𝒱 (SparseCore.T d) none Set.univ (op := opRow) (S := SAll) (show ({latR, rowR} : Finset (DevRef τ sig)) ⊆ SAll by decide) (V := V0 m d)) $$ [Hb Hheld]
  · isplitl [Hb] <;> iassumption
  iintro ⟨Hb, Hheld⟩
  rw [wp_ret]; imodintro
  ihave Hh := (Entails.of_eq (held_region m d)) $$ Hheld
  icases Hh with ⟨Ha, Hrest⟩
  ihave Hd := (debt_out d) $$ Hst
  icases Hd with ⟨Hd, Hst⟩
  ihave Hlv := ((K (F := F)).ctx_levAts κ) $$ Hctx
  iapply (region_wp (Vr m) (V1 m) (V2 m) (region_in m) (region_out m) d) $$ [Hb Ha Hd Hlv Hg Hrest Hst Hts]
  isplitl [Hrest Hst Hts]
  swap
  · isplitl [Hb]; · iexact Hb
    isplitl [Ha Hd]
    · isplitl [Ha] <;> iassumption
    isplitl [Hlv] <;> iassumption
  iintro ⟨Hb, Ha, Hd⟩
  ihave Hst := Hst $$ Hd
  iapply (wp_hlo_within 𝒱 (SparseCore.T d) none Set.univ (op := opC) (S := SAll) (show ({cR} : Finset (DevRef τ sig)) ⊆ SAll by decide) (V := V2 m d)) $$ [Hb Ha Hrest]
  · isplitl [Hb]; · iexact Hb
    rw [held_region_out]
    isplitl [Ha] <;> iassumption
  iintro ⟨Hb, Hheld⟩
  rw [wp_ret]; imodintro
  iapply (wp_hlo_within 𝒱 (SparseCore.T d) none Set.univ (op := opZ) (S := SAll) (show ({cR, zR} : Finset (DevRef τ sig)) ⊆ SAll by decide)
    (V := (opC (F := F)).result (V2 m d))) $$ [Hb Hheld]
  · isplitl [Hb] <;> iassumption
  iintro ⟨Hb, Hheld⟩
  rw [wp_ret]; imodintro
  iapply (wp_hlo_within 𝒱 (SparseCore.T d) none Set.univ (op := opPad) (S := SAll) (show ({cbR, zR, tabR} : Finset (DevRef τ sig)) ⊆ SAll by decide)
    (V := (opZ (F := F)).result ((opC (F := F)).result (V2 m d)))) $$ [Hb Hheld]
  · isplitl [Hb] <;> iassumption
  iintro ⟨Hb, Hheld⟩
  rw [wp_ret]; imodintro
  ihave Hh := (Entails.of_eq (held_before m d)) $$ Hheld
  icases Hh with ⟨Hc, Hrest⟩
  iapply ((K (F := F)).wp_run (D (F := F)) 𝒱 (EH := EH) (P := P m) κ d 0) $$ [Hst Hc Hb Hrest Hts]
  isplitr; · iexact Hctx
  isplitl [Hst]; · iexact Hst
  isplitl [Hc]; · rw [st0_eq]; iexact Hc
  iintro ⟨Hst, Hdn⟩
  ihave Hdn' := (Entails.of_eq (dn0_eq m d)) $$ Hdn
  iapply (wp_hlo_within 𝒱 (SparseCore.T d) none Set.univ (op := opSl) (S := SAll) (show ({outR, resR} : Finset (DevRef τ sig)) ⊆ SAll by decide) (V := V4 m d)) $$ [Hb Hdn' Hrest]
  · isplitl [Hb]; · iexact Hb
    rw [held_after]
    isplitl [Hdn'] <;> iassumption
  iintro ⟨Hb, Hheld⟩
  rw [wp_ret]; imodintro
  iapply (wp_hlo_within 𝒱 (SparseCore.T d) none Set.univ (op := opLoss) (S := SAll) (show ({sumR, lossR} : Finset (DevRef τ sig)) ⊆ SAll by decide) (V := (opSl (F := F)).result (V4 m d))) $$ [Hb Hheld]
  · isplitl [Hb] <;> iassumption
  iintro ⟨Hb, Hheld⟩
  rw [wp_ret]; imodintro; imodintro
  isplitl [Hst]; · iexact Hst
  isplitl [Hheld]; · iexact Hheld
  isplitl [Hb] <;> iassumption

/-- What the claims read of device `d`'s final state. -/
def fq (d : Dev nD) (s' : Phys nD τ sig (Elt F)) : Prop :=
  s'.mem.mem (d, resR) = V6 m d resR ∧ s'.mem.mem (d, lossR) = V6 m d lossR ∧ s'.mem.mem (d, latR) = m (d, latR) ∧ s'.mem.mem (d, cbR) = m (d, cbR)

set_option maxRecDepth 16384 in
theorem hfin (d : Dev nD) (s' : Phys nD τ sig (Elt F)) : iprop(FIN m d ∗ SI s') ⊢ (⌜fq m d s'⌝ : sProp 𝕄) := by
  unfold FIN
  rw [held_sub_split (SparseCore.T d) (show SRes ⊆ SAll by decide), held_insert (by decide), held_insert (by decide), held_insert (by decide), V6_lat, V6_cb]
  unfold held
  rw [bigSep_singleton]
  iintro ⟨⟨⟨Ha, Hc, Hr, Hl⟩, -⟩, HSI⟩
  ihave H := (persistent_entails_right (SI_pointsTo_agree (st := s') (ℓ := (d, latR)) (I := Finset.univ) (q := fullShare) (f := m (d, latR)))) $$ [HSI Ha]
  · isplitl [HSI] <;> iassumption
  icases H with ⟨%h1, HSI, -⟩
  ihave H := (persistent_entails_right (SI_pointsTo_agree (st := s') (ℓ := (d, cbR)) (I := Finset.univ) (q := fullShare) (f := m (d, cbR)))) $$ [HSI Hc]
  · isplitl [HSI] <;> iassumption
  icases H with ⟨%h2, HSI, -⟩
  ihave H := (persistent_entails_right (SI_pointsTo_agree (st := s') (ℓ := (d, resR)) (I := Finset.univ) (q := fullShare) (f := V6 m d resR))) $$ [HSI Hr]
  · isplitl [HSI] <;> iassumption
  icases H with ⟨%h3, HSI, -⟩
  ihave H := (SI_pointsTo_agree (st := s') (ℓ := (d, lossR)) (I := Finset.univ) (q := fullShare) (f := V6 m d lossR)) $$ [HSI Hl]
  · isplitl [HSI] <;> iassumption
  icases H with %h4
  ipureintro
  exact ⟨funext fun j => h3 j (Finset.mem_univ j), funext fun j => h4 j (Finset.mem_univ j), funext fun j => h1 j (Finset.mem_univ j),
    funext fun j => h2 j (Finset.mem_univ j)⟩

/-! ## The run -/

def QC : PUnit × MemSt nD τ sig (Elt F) → Prop := fun r =>
  (∀ c : Dev nD, r.2.mem (c, resR) = V6 m c resR ∧ r.2.mem (c, lossR) = V6 m c lossR ∧ r.2.mem (c, latR) = m (c, latR) ∧ r.2.mem (c, cbR) = m (c, cbR))
    ∧ r.2.sem = fun _ => 0

theorem run_main [∀ e, Nonempty (Elt F e)] (hpre : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => ghost (F := F) d) (FIN m) (u₀ (F := F)) (sep_elim_left.trans (hu₀ m)) (hmain m ρ) (fq m) (hfin m) (QC m) (fun _ h hz => ⟨h, hz⟩)

end Cert.Proof.KernelRun

end
-- ==== Proof.Argmin.lean ====
/-
  THE LEAST INDEX OF A ROW'S MINIMUM over the extended reals, among 1024 columns (`best`), and three ways to it: the
  kernel's row minimum (`fold_min`), the kernel's least index where the row meets its minimum (`fold_index`), and the
  host's fold of (value, index) pairs (`argReduce_index`).
-/
module

public import Idealize.ShloMosaic.PureOps
public import Idealize.ShloMosaic.PureOps.Ideal.Laws
public import Idealize.ShloMosaic.PureOps.Reduce
public import Idealize.ShloMosaic.Lib.ValueIdx
public import Idealize.ShloMosaic.Lib.StableHlo.Predicate

@[expose] public section

noncomputable section

namespace Cert.Proof.Argmin

open Idealize.ShloMosaic Idealize.ShloMosaic.ValueIdx

abbrev N : ℕ := 1024

/-- `j` is the first column at which `f` is least. -/
def IsBest (f : Fin N → EReal) (j : Fin N) : Prop := (∀ k, f j ≤ f k) ∧ ∀ k, f k = f j → j ≤ k

theorem exists_best (f : Fin N → EReal) : ∃ j, IsBest f j := by
  obtain ⟨j, -, hj⟩ := Finset.exists_min_image Finset.univ (fun k => toLex (f k, k)) ⟨(0 : Fin N), Finset.mem_univ _⟩
  have key : ∀ k, f j < f k ∨ f j = f k ∧ j ≤ k := fun k => by
    have := hj k (Finset.mem_univ k)
    rcases Prod.Lex.le_iff.mp this with h | h
    · exact Or.inl h
    · exact Or.inr h
  exact ⟨j, fun k => (key k).elim le_of_lt fun h => h.1.le, fun k e => (key k).elim (fun h => absurd (e ▸ h) (lt_irrefl _)) fun h => h.2⟩

def best (f : Fin N → EReal) : Fin N := Classical.choose (exists_best f)
theorem best_le (f : Fin N → EReal) (k : Fin N) : f (best f) ≤ f k := (Classical.choose_spec (exists_best f)).1 k
theorem best_first (f : Fin N → EReal) (k : Fin N) (e : f k = f (best f)) : best f ≤ k := (Classical.choose_spec (exists_best f)).2 k e
theorem eq_best {f : Fin N → EReal} {j : Fin N} (h : IsBest f j) : j = best f :=
  le_antisymm (h.2 _ (le_antisymm (best_le f j) (h.1 _))) (best_first f j (le_antisymm (h.1 _) (best_le f j)))

/-! ## The kernel's way -/

/-- The minimum of a row, started from the top element, is the row at `best`. -/
theorem fold_min (f : Fin N → EReal) : Finset.univ.fold min (⊤ : EReal) f = f (best f) :=
  le_antisymm (Finset.fold_min_le _ |>.mpr (Or.inr ⟨best f, Finset.mem_univ _, le_rfl⟩))
    (Finset.le_fold_min _ |>.mpr ⟨le_top, fun k _ => best_le f k⟩)

theorem toInt_minsi (x y : BitVec 32) : (IntOp.minsi x y).toInt = min x.toInt y.toInt := by
  unfold IntOp.minsi
  rw [BitVec.slt_eq_decide]
  by_cases h : x.toInt < y.toInt
  · simp [h, min_eq_left h.le]
  · simp [h, min_eq_right (not_lt.mp h)]

theorem toInt_col {k : ℕ} (h : k < 1024) : (BitVec.ofNat 32 k).toInt = k := by
  rw [BitVec.toInt_eq_toNat_cond, BitVec.toNat_ofNat, Nat.mod_eq_of_lt (by omega)]
  rw [if_pos (by omega)]

/-- The least of the column numbers at which the row meets its minimum, 1024 standing for the other columns. -/
theorem fold_index (f : Fin N → EReal) (w : Fin N → BitVec 32) (hw : ∀ k, w k = if f k = f (best f) then BitVec.ofNat 32 k.val else 1024#32) :
    Finset.univ.fold IntOp.minsi 2147483647#32 w = BitVec.ofNat 32 (best f).val := by
  apply BitVec.eq_of_toInt_eq
  rw [← Finset.fold_hom (op' := min) (m := BitVec.toInt) toInt_minsi, toInt_col (best f).isLt]
  refine le_antisymm (Finset.fold_min_le _ |>.mpr (Or.inr ⟨best f, Finset.mem_univ _, ?_⟩)) (Finset.le_fold_min _ |>.mpr ⟨?_, fun k _ => ?_⟩)
  · show (w (best f)).toInt ≤ _
    rw [hw, if_pos rfl, toInt_col (best f).isLt]
  · have := (best f).isLt
    rw [show (2147483647#32 : BitVec 32).toInt = 2147483647 from by decide]
    unfold N at this; omega
  · show _ ≤ (w k).toInt
    rw [hw]
    split
    · rename_i e
      rw [toInt_col k.isLt]
      exact_mod_cast best_first f k e
    · have := (best f).isLt
      rw [show (1024#32 : BitVec 32).toInt = 1024 from by decide]
      unfold N at this; omega

/-! ## The host's way -/

/-- The smaller of two (value, index) pairs: by value, among equal values by index. -/
def pairMin (a b : EReal × BitVec 32) : EReal × BitVec 32 := if a.1 < b.1 ∨ a.1 = b.1 ∧ a.2.toInt < b.2.toInt then a else b

def PairLe (a b : EReal × BitVec 32) : Prop := a.1 < b.1 ∨ a.1 = b.1 ∧ a.2.toInt ≤ b.2.toInt

theorem PairLe.refl (a : EReal × BitVec 32) : PairLe a a := Or.inr ⟨rfl, le_rfl⟩
theorem PairLe.trans {a b c : EReal × BitVec 32} (h : PairLe a b) (h' : PairLe b c) : PairLe a c := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

theorem pairMin_mem (a b : EReal × BitVec 32) : pairMin a b = a ∨ pairMin a b = b := by
  unfold pairMin; split <;> simp
theorem pairMin_le_left (a b : EReal × BitVec 32) : PairLe (pairMin a b) a := by
  unfold pairMin
  split
  · exact .refl _
  · rename_i h
    rcases lt_trichotomy a.1 b.1 with g | g | g
    · exact absurd (Or.inl g) h
    · exact Or.inr ⟨g.symm, not_lt.mp fun g' => h (Or.inr ⟨g, g'⟩)⟩
    · exact Or.inl g
theorem pairMin_le_right (a b : EReal × BitVec 32) : PairLe (pairMin a b) b := by
  unfold pairMin
  split
  · rename_i h
    exact h.imp_right fun h => ⟨h.1, h.2.le⟩
  · exact .refl _

theorem foldl_pairMin (L : List (EReal × BitVec 32)) (a : EReal × BitVec 32) :
    (L.foldl pairMin a = a ∨ L.foldl pairMin a ∈ L) ∧ PairLe (L.foldl pairMin a) a ∧ ∀ p ∈ L, PairLe (L.foldl pairMin a) p := by
  induction L generalizing a with
  | nil => exact ⟨Or.inl rfl, .refl _, fun _ h => nomatch h⟩
  | cons b L ih =>
    obtain ⟨h1, h2, h3⟩ := ih (pairMin a b)
    rw [List.foldl_cons]
    refine ⟨?_, h2.trans (pairMin_le_left a b), fun p hp => ?_⟩
    · rcases h1 with h1 | h1
      · rw [h1]
        rcases pairMin_mem a b with e | e
        · exact Or.inl e
        · exact Or.inr (by rw [e]; exact List.mem_cons_self)
      · exact Or.inr (List.mem_cons_of_mem _ h1)
    · rcases List.mem_cons.mp hp with rfl | hp
      · exact h2.trans (pairMin_le_right a p)
      · exact h3 p hp

abbrev SDist : Shape := ⟨2, ![4608, 1024]⟩
abbrev SRows : Shape := ⟨1, ![4608]⟩
abbrev S0 : Shape := ⟨0, ![]⟩

/-- The host's arg-min of each row, started from (⊤, 0): the second component is `best` of the row. -/
theorem argReduce_index (f : EReal × BitVec 32 → EReal × BitVec 32 → EReal × BitVec 32) (hf : ∀ a b, f a b = pairMin a b)
    (x : SDist.Idx → EReal) (y : SDist.Idx → BitVec 32) (hy : ∀ i, y i = BitVec.ofNat 32 (i 1).val) (u : S0.Idx → EReal) (hu : ∀ i, u i = ⊤)
    (v : S0.Idx → BitVec 32) (hv : ∀ i, v i = 0#32) (h : SDist.ReducesTo [1] SRows) (h0 : 0 < S0.numel) (j : SRows.Idx) :
    (Host.reduce2 f x y u v h h0 j).2 = BitVec.ofNat 32 (best fun k => x (ix2 (j 0) k)).val := by
  rw [Host.reduce2_eq_foldl_fiber, hu, hv, show f = pairMin from funext fun a => funext fun b => hf a b]
  have hdrop : ∀ i : SDist.Idx, h.drop i = j ↔ i 0 = j 0 := fun i => by
    constructor
    · intro e; rw [← e]; exact Fin.ext rfl
    · intro e; funext b
      match b with
      | ⟨0, _⟩ => exact Fin.ext (congrArg Fin.val e)
  have hmem : ∀ p, p ∈ Host.argReduceFiber x y h j ↔ ∃ k : Fin N, p = (x (ix2 (j 0) k), BitVec.ofNat 32 k.val) := fun p => by
    unfold Host.argReduceFiber
    rw [List.mem_map]
    constructor
    · rintro ⟨n, hn, rfl⟩
      have hd := (hdrop _).mp (of_decide_eq_true (List.mem_filter.mp hn).2)
      refine ⟨SDist.rowMajor.symm n 1, ?_⟩
      rw [hy, ← hd]
      congr 2
      funext a
      match a with
      | ⟨0, _⟩ => rfl
      | ⟨1, _⟩ => rfl
    · rintro ⟨k, rfl⟩
      refine ⟨SDist.rowMajor (ix2 (j 0) k), List.mem_filter.mpr ⟨List.mem_finRange _, ?_⟩, ?_⟩
      · rw [Equiv.symm_apply_apply]; exact decide_eq_true ((hdrop _).mpr rfl)
      · rw [Equiv.symm_apply_apply, hy]
  obtain ⟨h1, -, h3⟩ := foldl_pairMin (Host.argReduceFiber x y h j) (⊤, 0#32)
  rcases h1 with h1 | h1
  · rw [h1] at h3 ⊢
    have hall : ∀ k : Fin N, x (ix2 (j 0) k) = ⊤ := fun k => by
      rcases h3 _ ((hmem _).mpr ⟨k, rfl⟩) with g | g
      · exact absurd g not_top_lt
      · exact g.1.symm
    have hz : (0 : Fin N) = best fun k => x (ix2 (j 0) k) := eq_best ⟨fun k => by simp only [hall, le_refl], fun k _ => Fin.zero_le k⟩
    rw [← hz]
    rfl
  · obtain ⟨k, hk⟩ := (hmem _).mp h1
    rw [hk] at h3 ⊢
    have key : IsBest (fun k => x (ix2 (j 0) k)) k := ⟨fun k' => (h3 _ ((hmem _).mpr ⟨k', rfl⟩)).elim (fun g => le_of_lt g) fun g => g.1.le,
      fun k' e => (h3 _ ((hmem _).mpr ⟨k', rfl⟩)).elim (fun g => absurd (show x (ix2 (j 0) k) < x (ix2 (j 0) k) from lt_of_lt_of_eq g e) (lt_irrefl _)) fun g => by
        have := g.2
        dsimp only at this
        rw [toInt_col k.isLt, toInt_col k'.isLt] at this
        exact_mod_cast this⟩
    rw [← eq_best key]

end Cert.Proof.Argmin

end
-- ==== Proof.Terms.lean ====
/-
  THE REFERENCE'S MATHEMATICS as terms over its arrays: the distances of every latent row to every table row (`hdist`),
  the column a pair reducer picks in each row (`hidx`), the two equal losses weighted and added (`hloss`), and the
  straight-through result (`hst`).
-/
module

public import proofs.«01_k».proof.Proof.Take
public import proofs.«01_k».proof.Proof.Picked
public import proofs.«01_k».proof.Proof.Argmin

@[expose] public section

noncomputable section

namespace Cert.Proof.Terms

open Idealize.ShloMosaic
open Cert.Proof.Take (S0 SIdx SCol STab SRow bS0Row bIdxCol pos0)
open Cert.Proof.Picked (SRes)
open Cert.Proof.Argmin (SDist)

abbrev SCb : Shape := ⟨1, ![1024]⟩
abbrev SCbRow : Shape := ⟨2, ![1, 1024]⟩
abbrev SCbT : Shape := ⟨2, ![64, 1024]⟩

theorem castFlat : SRes.ShapeCasts SRow := by decide
theorem castRes : SRow.ShapeCasts SRes := by decide
theorem redRow : SRow.ReducesTo [1] SIdx := by decide
theorem redTab : STab.ReducesTo [1] SCb := by decide
theorem redDist : SDist.ReducesTo [1] SIdx := by decide
theorem redRes : SRes.ReducesTo [0, 1, 2] S0 := by decide
theorem bCbRow : SCb.BroadcastsInDim SCbRow (![1] : Fin 1 → Fin SCbRow.rank) := by decide
theorem bColDist : SCol.BroadcastsInDim SDist (![0, 1] : Fin 2 → Fin SDist.rank) := by decide
theorem bCbDist : SCbRow.BroadcastsInDim SDist (![0, 1] : Fin 2 → Fin SDist.rank) := by decide
theorem trCb : STab.Transposes [1, 0] SCbT := by decide
theorem prodDims_wf : DotDims.WF SRow SCbT SDist [1] [0] [0] [1] [] [] := by decide

/-- Rows of the first factor by columns of the second. -/
abbrev prodDims : DotDims SRow SCbT SDist where
  lhsContracting := [1]
  rhsContracting := [0]
  lhsNonContracting := [0]
  rhsNonContracting := [1]
  lhsBatch := []
  rhsBatch := []
  wf := prodDims_wf

variable {F : FTy → Type} [FloatOps F]

/-- ‖l‖² + ‖c‖² − (2·l)·c. -/
def hdist (l : FVec F SRow .f32) (cb : FVec F STab .f32) : FVec F SDist .f32 :=
  subf (addf (broadcastInDim SDist ![0, 1] bColDist (broadcastInDim SCol ![0] bIdxCol
        (Host.reduceAdd (mulf l l) (constant S0 .f32 0x00000000#32) redRow pos0)))
      (broadcastInDim SDist ![0, 1] bCbDist (broadcastInDim SCbRow ![1] bCbRow
        (Host.reduceAdd (mulf cb cb) (constant S0 .f32 0x00000000#32) redTab pos0))))
    (Host.dotGeneral prodDims none (mulf (broadcastInDim SRow ![] bS0Row (constant S0 .f32 0x40000000#32)) l)
      (transpose SCbT [1, 0] cb trCb))

/-- The column of each row that the pair reducer picks. -/
def hidx (f : F .f32 × BitVec 32 → F .f32 × BitVec 32 → F .f32 × BitVec 32) (d : FVec F SDist .f32) : IVec SIdx 32 :=
  fun j => (Host.argReduce f d (iotaInDim SDist 32 1) (constant S0 .f32 0x7F800000#32) (constantI S0 32 0#32) redDist pos0 j).2

/-- The mean squared difference. -/
def hmean (q lat : FVec F SRes .f32) : FVec F S0 .f32 :=
  Host.divf (Host.reduceAdd (mulf (subf q lat) (subf q lat)) (constant S0 .f32 0x00000000#32) redRes pos0) (constant S0 .f32 0x48900000#32)

def hloss (q lat : FVec F SRes .f32) : FVec F S0 .f32 :=
  addf (mulf (hmean q lat) (constant S0 .f32 0x3E800000#32)) (hmean q lat)

def hst (q lat : FVec F SRes .f32) : FVec F SRes .f32 := addf lat (subf q lat)

/-- The reference's indices. -/
def hcode (f : F .f32 × BitVec 32 → F .f32 × BitVec 32 → F .f32 × BitVec 32) (lat : FVec F SRes .f32) (cb : FVec F STab .f32) :
    IVec SIdx 32 := hidx f (hdist (shapeCast SRow lat castFlat) cb)

/-- The rows that indices name, in the latents' shape. -/
def hrows (cb : FVec F STab .f32) (idx : IVec SIdx 32) : FVec F SRes .f32 :=
  shapeCast SRes (Take.take (constant S0 .f32 0x7FC00000#32) cb idx) castRes

end Cert.Proof.Terms

end
-- ==== Proof.Consts.lean ====
/-
  THE FLOAT CONSTANTS read over the extended reals: ⊤, 2, 1/4 and the 294912 = 4608·64 elements of the latents.
-/
module

public import Idealize.ShloMosaic.PureOps.Ideal
public import Idealize.ShloMosaic.Lib.Pipeline.Value

@[expose] public section

noncomputable section

namespace Cert.Proof.Consts

open Idealize.ShloMosaic

theorem top_bits : Ideal.ofBits .f32 0x7F800000#32 = ⊤ := by simp [Ideal.ofBits, Ideal.ieee]
theorem two_bits : Ideal.ofBits .f32 0x40000000#32 = ((2 : ℝ) : EReal) := by simp [Ideal.ofBits, Ideal.ieee, -EReal.coe_mul]; norm_num
theorem quarter_bits : Ideal.ofBits .f32 0x3E800000#32 = ((1 / 4 : ℝ) : EReal) := by simp [Ideal.ofBits, Ideal.ieee, -EReal.coe_mul]; norm_num
theorem elems_bits : Ideal.ofBits .f32 0x48900000#32 = ((294912 : ℝ) : EReal) := by simp [Ideal.ofBits, Ideal.ieee, -EReal.coe_mul]; norm_num

end Cert.Proof.Consts

end
-- ==== Proof.Dist.lean ====
/-
  THE DISTANCES OVER THE EXTENDED REALS. `sqdist l cb r k` is ‖l_r‖² + ‖c_k‖² − Σ_j l_rj·(c_kj + c_kj), what both the
  kernel (`kernel_dist`) and the reference (`host_dist`) compute, and the least index of its minimum over the columns is
  what both leave as the row's code (`kernel_code`, `host_code`); the kernel's loss is the sum of the minima scaled
  (`kernel_loss`).
-/
module

public import proofs.«01_k».proof.Proof.Terms
public import proofs.«01_k».proof.Proof.Consts
public import proofs.«01_k».proof.Proof.Gen.AssignIdeal.Skeleton
public import Idealize.ShloMosaic.Lib.MatmulPlain
public import Idealize.ShloMosaic.Lib.Pipeline.Value

@[expose] public section

noncomputable section

namespace Cert.Proof.Dist

open Idealize.ShloMosaic Idealize.ShloMosaic.ValueIdx
open scoped BigOperators
open Cert.Proof.Take (S0 SIdx SCol STab SRow pos0)
open Cert.Proof.Picked (SRes)
open Cert.Proof.Argmin
open Cert.Proof.Terms
open Cert.AssignIdeal.Gen (k0_pay1 k0_pay2 k0_pay3 k0_pay4)

def sqdist (l : SRow.Idx → EReal) (cb : STab.Idx → EReal) (r : Fin 4608) (k : Fin N) : EReal :=
  ((∑ j : Fin 64, l (ix2 r j) * l (ix2 r j)) + ∑ j : Fin 64, cb (ix2 k j) * cb (ix2 k j))
    - ∑ j : Fin 64, l (ix2 r j) * (cb (ix2 k j) + cb (ix2 k j))

/-- Each row's code: the least index of its minimum. -/
def code (l : SRow.Idx → EReal) (cb : STab.Idx → EReal) : SIdx.Idx → BitVec 32 :=
  fun p => BitVec.ofNat 32 (best (sqdist l cb (p 0))).val

theorem code_lt (l : SRow.Idx → EReal) (cb : STab.Idx → EReal) (p : SIdx.Idx) : (code l cb p).toNat < 1024 := by
  unfold code
  rw [BitVec.toNat_ofNat]
  exact lt_of_le_of_lt (Nat.mod_le _ _) (best _).isLt

theorem code_toNat (l : SRow.Idx → EReal) (cb : STab.Idx → EReal) (p : SIdx.Idx) :
    (code l cb p).toNat = (best (sqdist l cb (p 0))).val := by
  unfold code
  rw [BitVec.toNat_ofNat]
  have := (best (sqdist l cb (p 0))).isLt
  exact Nat.mod_eq_of_lt (by unfold N at this; omega)

/-! ## The kernel -/

section Kernel

theorem rowRed : SRow.Reduces [1] SIdx := by decide
theorem tabRed : STab.Reduces [1] SCb := by decide
theorem distRed : SDist.Reduces [1] SIdx := by decide

theorem rowLift (j : SIdx.Idx) (k : Fin 64) : rowRed.lift j k = ix2 (show Fin 4608 from j 0) k := by
  funext a
  match a with
  | ⟨0, _⟩ => rfl
  | ⟨1, _⟩ => rfl
theorem tabLift (j : SCb.Idx) (k : Fin 64) : tabRed.lift j k = ix2 (show Fin 1024 from j 0) k := by
  funext a
  match a with
  | ⟨0, _⟩ => rfl
  | ⟨1, _⟩ => rfl
theorem distLift (j : SIdx.Idx) (k : Fin N) : distRed.lift j k = ix2 (show Fin 4608 from j 0) k := by
  funext a
  match a with
  | ⟨0, _⟩ => rfl
  | ⟨1, _⟩ => rfl

theorem rowSum (x : FVec Ideal SRow .f32) (hφ : FKind.Formats .f32) (hacc : 0x00000000#32 = FKind.add.neutral .f32 hφ) (h : SRow.Reduces [1] SIdx) (j : SIdx.Idx) :
    multiReduction .add [1] SIdx x 0x00000000#32 h hφ hacc j = ∑ k : Fin 64, x (ix2 (show Fin 4608 from j 0) k) :=
  (Ideal.multiReduction_add_single x _ h hφ hacc j).trans (Finset.sum_congr rfl fun k _ => congrArg x (rowLift j k))

theorem tabSum (x : FVec Ideal STab .f32) (hφ : FKind.Formats .f32) (hacc : 0x00000000#32 = FKind.add.neutral .f32 hφ) (h : STab.Reduces [1] SCb) (j : SCb.Idx) :
    multiReduction .add [1] SCb x 0x00000000#32 h hφ hacc j = ∑ k : Fin 64, x (ix2 (show Fin 1024 from j 0) k) :=
  (Ideal.multiReduction_add_single x _ h hφ hacc j).trans (Finset.sum_congr rfl fun k _ => congrArg x (tabLift j k))

/-- A column vector spread over the columns. -/
theorem spreadCol {α : Type} (x : SIdx.Idx → α) (hc : SIdx.ShapeCasts SCol) (hb : SCol.Broadcasts SDist) (r : Fin 4608) (k : Fin N) :
    broadcastTo SDist (shapeCast SCol x hc) hb (ix2 r k) = x (ix1 r) := by
  rw [broadcastTo_apply (shapeCast SCol x hc) hb (ix2 r k) (ix2 r 0) (by
    intro a
    match a with
    | ⟨0, _⟩ => rfl
    | ⟨1, _⟩ => rfl)]
  exact shapeCast_apply x hc _ (ix1 r) (by
    rw [Shape.rowMajor_val_one, Shape.rowMajor_val_two]
    show r.val = r.val * 1 + 0
    omega)

/-- A row vector spread over the rows. -/
theorem spreadRow {α : Type} (x : SCb.Idx → α) (hc : SCb.ShapeCasts SCbRow) (hb : SCbRow.Broadcasts SDist) (r : Fin 4608) (k : Fin N) :
    broadcastTo SDist (shapeCast SCbRow x hc) hb (ix2 r k) = x (ix1 k) := by
  rw [broadcastTo_apply (shapeCast SCbRow x hc) hb (ix2 r k) (ix2 0 k) (by
    intro a
    match a with
    | ⟨0, _⟩ => rfl
    | ⟨1, _⟩ => rfl)]
  exact shapeCast_apply x hc _ (ix1 k) (by
    rw [Shape.rowMajor_val_one, Shape.rowMajor_val_two]
    show k.val = 0 * 1024 + k.val
    omega)

theorem cast_self {s : Shape} {α : Type} (x : s.Idx → α) (h : s.ShapeCasts s) : shapeCast s x h = x :=
  funext fun i => shapeCast_apply x h i i rfl

theorem kernel_dist (v0 : FVec Ideal SRow .f32) (v2 : FVec Ideal STab .f32) (r : Fin 4608) (k : Fin N) :
    k0_pay1 (F := Ideal) v0 v2 (ix2 r k) = sqdist v0 v2 r k := by
  unfold k0_pay1 sqdist
  dsimp only
  rw [cast_self]
  refine congrArg₂ (fun a b : EReal => a - b) (congrArg₂ (fun a b : EReal => a + b) ?_ ?_) ?_
  · exact (spreadCol _ _ _ r k).trans (rowSum _ _ _ _ _)
  · exact (spreadRow _ _ _ r k).trans (tabSum _ _ _ _ _)
  · refine (Ideal.matmul_transposedRhs_apply none v0 (addf v2 v2) _ r k).trans ?_
    rw [show (constant SDist .f32 0x00000000#32 : FVec Ideal SDist .f32) (ix2 r k) = (0 : EReal) from Ideal.ofBits_zero_f32]
    exact zero_add _

theorem top_f32 : (FloatOps.ofBits (F := Ideal) .f32 0x7F800000#32 : EReal) = ⊤ := Consts.top_bits

theorem kernel_min (v0 : FVec Ideal SRow .f32) (v2 : FVec Ideal STab .f32) (p : SIdx.Idx) :
    k0_pay2 (F := Ideal) v0 v2 p = sqdist v0 v2 (p 0) (best (sqdist v0 v2 (p 0))) := by
  unfold k0_pay2
  dsimp only
  refine (multiReduction_minimumf_eq_fold _ _ distRed _ _ p).trans ((distRed.fold_filter_drop_single _ _ _ p).trans ?_)
  rw [show (k0_pay1 (F := Ideal) v0 v2 ∘ distRed.lift p) = sqdist v0 v2 (p 0) from
    funext fun k => (congrArg (k0_pay1 (F := Ideal) v0 v2) (distLift p k)).trans (kernel_dist v0 v2 (p 0) k), top_f32]
  exact fold_min _

theorem kernel_code (v0 : FVec Ideal SRow .f32) (v2 : FVec Ideal STab .f32) : k0_pay3 (F := Ideal) v0 v2 = code v0 v2 := by
  funext p
  unfold k0_pay3 code
  dsimp only
  refine (multiReductionI_eq_fold .minsi _ _ distRed _ p).trans ((distRed.fold_filter_drop_single IntOp.minsi _ _ p).trans ?_)
  refine fold_index _ _ fun k => ?_
  show select _ _ _ (distRed.lift p k) = _
  rw [distLift, select_apply, cmpf_apply, spreadCol, kernel_dist, kernel_min]
  show Scalar.select (Ideal.cmp .oeq _ _) _ _ = _
  by_cases h : sqdist v0 v2 (p 0) k = sqdist v0 v2 (p 0) (best (sqdist v0 v2 (p 0)))
  · rw [if_pos h]
    simp only [Ideal.cmp]
    rw [show decide (sqdist v0 v2 (p 0) k = sqdist v0 v2 (p 0) (best (sqdist v0 v2 (p 0)))) = true from decide_eq_true h]
    show BitVec.ofNat 32 (0 * 1024 + k.val) = _
    rw [Nat.zero_mul, Nat.zero_add]
  · rw [if_neg h]
    simp only [Ideal.cmp]
    rw [show decide (sqdist v0 v2 (p 0) k = sqdist v0 v2 (p 0) (best (sqdist v0 v2 (p 0)))) = false from decide_eq_false h]
    rfl

/-- The sum of the rows' minima. -/
def minSum (l : SRow.Idx → EReal) (cb : STab.Idx → EReal) : EReal := ∑ r : Fin 4608, sqdist l cb r (best (sqdist l cb r))

theorem lossRed : (⟨2, ![1, 4608]⟩ : Shape).Reduces [1] Take.S1 := by decide
theorem lossLift (j : Take.S1.Idx) (k : Fin 4608) : lossRed.lift j k = ix2 (show Fin 1 from j 0) k := by
  funext a
  match a with
  | ⟨0, _⟩ => rfl
  | ⟨1, _⟩ => rfl

theorem lossSum (x : FVec Ideal SIdx .f32) (hc : SIdx.ShapeCasts ⟨2, ![1, 4608]⟩) (hφ : FKind.Formats .f32)
    (hacc : 0x00000000#32 = FKind.add.neutral .f32 hφ) (h : (⟨2, ![1, 4608]⟩ : Shape).Reduces [1] Take.S1) (j : Take.S1.Idx) :
    multiReduction .add [1] Take.S1 (shapeCast ⟨2, ![1, 4608]⟩ x hc) 0x00000000#32 h hφ hacc j = ∑ r : Fin 4608, x (ix1 r) :=
  (Ideal.multiReduction_add_single _ _ h hφ hacc j).trans (Finset.sum_congr rfl fun k _ => by
    refine (congrArg (shapeCast ⟨2, ![1, 4608]⟩ x hc) (lossLift j k)).trans ?_
    exact shapeCast_apply x hc _ (ix1 (show Fin 4608 from k)) (by
      rw [Shape.rowMajor_val_one, Shape.rowMajor_val_two]
      show k.val = (j 0).val * 4608 + k.val
      have : (j 0).val < 1 := (j 0).isLt
      omega))

theorem one_cell {α : Type} (x : Take.S1.Idx → α) (h : Take.S1.ShapeCasts Take.S11) (i : Take.S11.Idx) : shapeCast Take.S11 x h i = x (ix1 0) :=
  shapeCast_apply x h i (ix1 0) (by
    rw [Shape.rowMajor_val_one, Shape.rowMajor_val_two]
    show 0 = (i 0).val * 1 + (i 1).val
    have h0 : (i 0).val < 1 := (i 0).isLt
    have h1 : (i 1).val < 1 := (i 1).isLt
    omega)

theorem scale_named : (Named.named (F := Ideal) Cert.AssignIdeal.κ "loss_scale" (φ := .f32) 0x368E38E4#32 : EReal) = ((5 / 1179648 : ℝ) : EReal) :=
  IdealRules.named_const.ideal_named_scalar _ _ _ _ rfl

theorem extract_one {α : Type} (x : Take.S11.Idx → α) (h : ∀ a, (![0, 0] : Fin 2 → ℕ) a < Take.S11.size a) : extractAt ![0, 0] x h = x (ix2 0 0) := by
  unfold extractAt
  congr 1
  funext a
  match a with
  | ⟨0, _⟩ => rfl
  | ⟨1, _⟩ => rfl

/-- The scaled cell, with the cell's value and the scale as variables. -/
theorem scaled_cell (x : FVec Ideal Take.S11 .f32) (h : ∀ a, (![0, 0] : Fin 2 → ℕ) a < Take.S11.size a) (z : Ideal .f32) (m : EReal)
    (hx : x (ix2 0 0) = m) (i : Take.S11.Idx) : broadcast Take.S11 (Scalar.mulf (extractAt ![0, 0] x h) z) i = m * (show EReal from z) := by
  subst hx
  show Scalar.mulf (extractAt ![0, 0] x h) z = _
  rw [show extractAt ![0, 0] x h = x (ix2 0 0) from extract_one x h]
  rfl

theorem loss_cell (x : FVec Ideal SIdx .f32) (m : EReal) (hx : ∑ r : Fin 4608, x (ix1 r) = m)
    (hc : SIdx.ShapeCasts ⟨2, ![1, 4608]⟩) (hφ : FKind.Formats .f32)
    (hacc : 0x00000000#32 = FKind.add.neutral .f32 hφ) (h : (⟨2, ![1, 4608]⟩ : Shape).Reduces [1] Take.S1) (h1 : Take.S1.ShapeCasts Take.S11) :
    shapeCast Take.S11 (multiReduction .add [1] Take.S1 (shapeCast ⟨2, ![1, 4608]⟩ x hc) 0x00000000#32 h hφ hacc) h1 (ix2 0 0) = m :=
  (one_cell _ _ _).trans ((lossSum _ _ _ _ _ _).trans hx)

theorem minima_sum (v0 : FVec Ideal SRow .f32) (v2 : FVec Ideal STab .f32) : ∑ r : Fin 4608, k0_pay2 (F := Ideal) v0 v2 (ix1 r) = minSum v0 v2 :=
  Finset.sum_congr rfl fun r _ => kernel_min v0 v2 (ix1 r)

theorem kernel_loss (v0 : FVec Ideal SRow .f32) (v2 : FVec Ideal STab .f32) (i : Take.S11.Idx) :
    k0_pay4 (F := Ideal) v0 v2 i = minSum v0 v2 * ((5 / 1179648 : ℝ) : EReal) := by
  rw [← scale_named]
  unfold k0_pay4
  exact scaled_cell _ _ _ _ (loss_cell _ _ (minima_sum v0 v2) _ _ _ _ _) i

end Kernel

end Cert.Proof.Dist

end
-- ==== Proof.HostDist.lean ====
/-
  THE REFERENCE'S DISTANCES AND CODES over the extended reals: the reference doubles the latents where the kernel adds
  the table to itself, and the two products agree on every extended real (`two_mul_mul`). So the distances agree
  (`host_dist`), and with them the codes (`host_code`).
-/
module

public import proofs.«01_k».proof.Proof.Dist
public import proofs.«01_k».proof.ReferenceIdeal
public import proofs.«01_k».proof.AssignReferenceIdeal
public import Idealize.ShloMosaic.Lib.StackMember
public import Idealize.ShloMosaic.Lib.IdealHost

@[expose] public section

noncomputable section

namespace Cert.Proof.HostDist

open Idealize.ShloMosaic Idealize.ShloMosaic.ValueIdx
open scoped BigOperators
open Cert.Proof.Take (S0 SIdx SCol STab SRow pos0 bS0Row bIdxCol)
open Cert.Proof.Picked (SRes)
open Cert.Proof.Argmin (SDist N best pairMin argReduce_index)
open Cert.Proof.Terms
open Cert.Proof.Dist

theorem two_f32 : (FloatOps.ofBits (F := Ideal) .f32 0x40000000#32 : EReal) = ((2 : ℝ) : EReal) := Consts.two_bits

theorem add_self (b : EReal) : b + b = ((2 : ℝ) : EReal) * b := by
  induction b with
  | bot => rw [EReal.coe_mul_bot_of_pos two_pos]; rfl
  | top => rw [EReal.coe_mul_top_of_pos two_pos]; rfl
  | coe r => rw [← EReal.coe_add, ← EReal.coe_mul, two_mul]

/-- Doubling either factor of a product of extended reals. -/
theorem two_mul_mul (a b : EReal) : ((2 : ℝ) : EReal) * a * b = a * (b + b) := by
  rw [add_self, mul_comm _ a, mul_assoc]

theorem zero_cell (i : S0.Idx) : (constant S0 .f32 0x00000000#32 : FVec Ideal S0 .f32) i = (0 : EReal) := Ideal.ofBits_zero_f32

theorem host_rowSum (x : FVec Ideal SRow .f32) (j : SIdx.Idx) :
    Host.reduceAdd x (constant S0 .f32 0x00000000#32) redRow pos0 j = ∑ d : Fin 64, x (ix2 (show Fin 4608 from j 0) d) := by
  refine (Ideal.hostReduceAdd_single redRow rowRed x _ j).trans ?_
  rw [zero_cell, zero_add]
  exact Finset.sum_congr rfl fun d _ => congrArg x (rowLift j d)

theorem host_tabSum (x : FVec Ideal STab .f32) (j : SCb.Idx) :
    Host.reduceAdd x (constant S0 .f32 0x00000000#32) redTab pos0 j = ∑ d : Fin 64, x (ix2 (show Fin 1024 from j 0) d) := by
  refine (Ideal.hostReduceAdd_single redTab tabRed x _ j).trans ?_
  rw [zero_cell, zero_add]
  exact Finset.sum_congr rfl fun d _ => congrArg x (tabLift j d)

theorem host_col {α : Type} (x : SIdx.Idx → α) (r : Fin 4608) (k : Fin N) :
    broadcastInDim SDist ![0, 1] bColDist (broadcastInDim SCol ![0] bIdxCol x) (ix2 r k) = x (ix1 r) := by
  rw [broadcastInDim_apply ![0, 1] bColDist _ (ix2 r k) (ix2 r 0) (by
    intro a
    match a with
    | ⟨0, _⟩ => rfl
    | ⟨1, _⟩ => rfl), broadcastInDim_apply ![0] bIdxCol _ (ix2 r 0) (ix1 r) (by
    intro a
    match a with
    | ⟨0, _⟩ => rfl)]

theorem host_row {α : Type} (x : SCb.Idx → α) (r : Fin 4608) (k : Fin N) :
    broadcastInDim SDist ![0, 1] bCbDist (broadcastInDim SCbRow ![1] bCbRow x) (ix2 r k) = x (ix1 k) := by
  rw [broadcastInDim_apply ![0, 1] bCbDist _ (ix2 r k) (ix2 0 k) (by
    intro a
    match a with
    | ⟨0, _⟩ => rfl
    | ⟨1, _⟩ => rfl), broadcastInDim_apply ![1] bCbRow _ (ix2 0 k) (ix1 k) (by
    intro a
    match a with
    | ⟨0, _⟩ => rfl)]

theorem dist_cell (x y z : FVec Ideal SDist .f32) (i : SDist.Idx) (a b c : EReal) (hx : x i = a) (hy : y i = b) (hz : z i = c) :
    subf (addf x y) z i = a + b - c := by
  subst hx hy hz
  rfl

theorem doubled_cell (x l : FVec Ideal SRow .f32) (i : SRow.Idx) (a b : EReal) (hx : x i = ((2 : ℝ) : EReal)) (hl : l i = a) :
    (mulf x l i : EReal) * b = a * (b + b) := by
  subst hl
  rw [← two_mul_mul, ← hx]
  rfl

theorem twos (i : SRow.Idx) : (broadcastInDim SRow ![] bS0Row (constant S0 .f32 0x40000000#32) : FVec Ideal SRow .f32) i = ((2 : ℝ) : EReal) :=
  (broadcastInDim_scalar_apply bS0Row _ i).trans two_f32

theorem host_dot (x l : FVec Ideal SRow .f32) (hx : ∀ i, x i = ((2 : ℝ) : EReal)) (cb : FVec Ideal STab .f32) (r : Fin 4608) (k : Fin N) :
    Host.dotGeneral prodDims none (mulf x l) (transpose SCbT [1, 0] cb trCb) (ix2 r k)
      = ∑ d : Fin 64, l (ix2 r d) * (cb (ix2 k d) + cb (ix2 k d)) := by
  refine (StackMember.dotGeneral_plain_apply none (mulf x l) (transpose SCbT [1, 0] cb trCb) r k).trans (Finset.sum_congr rfl fun d _ => ?_)
  rw [transpose_apply [1, 0] cb trCb (ix2 d k) (ix2 k d) (by
    intro b
    match b with
    | ⟨0, _⟩ => rfl
    | ⟨1, _⟩ => rfl)]
  exact doubled_cell x l _ _ _ (hx _) rfl

theorem host_dist (l : FVec Ideal SRow .f32) (cb : FVec Ideal STab .f32) (r : Fin 4608) (k : Fin N) :
    hdist l cb (ix2 r k) = sqdist l cb r k := by
  unfold hdist sqdist
  exact dist_cell _ _ _ _ _ _ _ ((host_col _ r k).trans (host_rowSum _ _)) ((host_row _ r k).trans (host_tabSum _ _))
    (host_dot _ l twos cb r k)

theorem top_cell (i : S0.Idx) : (constant S0 .f32 0x7F800000#32 : FVec Ideal S0 .f32) i = (⊤ : EReal) := top_f32

theorem pick_of (f : EReal × BitVec 32 → EReal × BitVec 32 → EReal × BitVec 32) (hf : ∀ a b, f a b = pairMin a b)
    (d : FVec Ideal SDist .f32) (y : IVec SDist 32) (hy : ∀ i, y i = BitVec.ofNat 32 (i 1).val) (u : FVec Ideal S0 .f32)
    (hu : ∀ i, u i = (⊤ : EReal)) (v : IVec S0 32) (hv : ∀ i, v i = 0#32) (j : SIdx.Idx) :
    (Host.argReduce (φ := .f32) f d y u v redDist pos0 j).2 = BitVec.ofNat 32 (best fun k => d (ix2 (show Fin 4608 from j 0) k)).val :=
  (congrArg Prod.snd (congrFun (Ideal.argReduce_eq_reduce2 f d y u v redDist pos0) j)).trans (argReduce_index f hf d y hy u hu v hv redDist pos0 j)

theorem hidx_eq (f : EReal × BitVec 32 → EReal × BitVec 32 → EReal × BitVec 32) (d : FVec Ideal SDist .f32) :
    hidx (F := Ideal) f d = fun j => (Host.argReduce (φ := .f32) f d (iotaInDim SDist 32 1) (constant S0 .f32 0x7F800000#32 : FVec Ideal S0 .f32)
      (constantI S0 32 0#32) redDist pos0 j).2 := by
  delta hidx
  rfl

/-- A pair reducer that is `pairMin` picks each row's code. -/
theorem host_pick (f : EReal × BitVec 32 → EReal × BitVec 32 → EReal × BitVec 32) (hf : ∀ a b, f a b = pairMin a b)
    (d : FVec Ideal SDist .f32) (j : SIdx.Idx) :
    hidx (F := Ideal) f d j = BitVec.ofNat 32 (best fun k => d (ix2 (show Fin 4608 from j 0) k)).val :=
  (congrFun (hidx_eq f d) j).trans
    (pick_of f hf d (iotaInDim SDist 32 1) (fun _ => rfl) (constant S0 .f32 0x7F800000#32 : FVec Ideal S0 .f32) top_cell (constantI S0 32 0#32) (fun _ => rfl) j)

theorem host_code (f : EReal × BitVec 32 → EReal × BitVec 32 → EReal × BitVec 32) (hf : ∀ a b, f a b = pairMin a b)
    (lat : FVec Ideal SRes .f32) (cb : FVec Ideal STab .f32) : hcode (F := Ideal) f lat cb = code (shapeCast SRow lat castFlat) cb := by
  funext j
  unfold hcode code
  rw [host_pick f hf]
  rw [show (fun k => hdist (F := Ideal) (shapeCast SRow lat castFlat) cb (ix2 (show Fin 4608 from j 0) k)) = sqdist (shapeCast SRow lat castFlat) cb (show Fin 4608 from j 0) from
    funext fun k => host_dist (shapeCast SRow lat castFlat) cb (show Fin 4608 from j 0) k]

theorem reducer_eq (a b : EReal × BitVec 32) : Cert.ReferenceIdeal.reducer_argmin_f32_i32 (F := Ideal) a b = pairMin a b := by
  obtain ⟨a1, a2⟩ := a
  obtain ⟨b1, b2⟩ := b
  unfold Cert.ReferenceIdeal.reducer_argmin_f32_i32 pairMin
  simp only [Ideal.cmpf_def, Ideal.cmp, IntOp.ori, IntOp.andi, IntOp.cmpi, Scalar.select]
  by_cases h1 : a1 < b1
  · simp [h1]
    by_cases h2 : a1 = b1 <;> by_cases h3 : a2.slt b2 <;> simp [h2, h3]
  · by_cases h2 : a1 = b1
    · subst h2
      by_cases h3 : a2.toInt < b2.toInt
      · simp [BitVec.slt, h3]
      · simp [BitVec.slt, h3]
    · simp [h1, h2]

theorem assign_reducer_eq (a b : EReal × BitVec 32) : Cert.AssignReferenceIdeal.reducer_argmin_f32_i32 (F := Ideal) a b = pairMin a b :=
  reducer_eq a b

end Cert.Proof.HostDist

end
-- ==== Proof.Loss.lean ====
/-
  THE LOSS AND THE STRAIGHT-THROUGH RESULT at finite latents and a finite table. There the squared distance is a sum of
  squares of differences (`sqdist_real`), so the mean squared difference of the picked rows and the latents is the sum of
  the rows' minima over the count of elements, and the two weighted losses add up to that sum times 5/1179648
  (`host_loss`); and latent + (row − latent) is the row (`host_st`).
-/
module

public import proofs.«01_k».proof.Proof.HostDist

@[expose] public section

noncomputable section

namespace Cert.Proof.Loss

open Idealize.ShloMosaic Idealize.ShloMosaic.ValueIdx
open scoped BigOperators
open Cert.Proof.Take (S0 SIdx SCol STab SRow pos0 take take_apply)
open Cert.Proof.Picked (SRes picked reshape_take)
open Cert.Proof.Argmin (N best)
open Cert.Proof.Terms
open Cert.Proof.Dist
open Cert.Proof.HostDist

/-- An array of real numbers. -/
def Reals {s : Shape} (x : s.Idx → EReal) : Prop := ∀ i, ∃ r : ℝ, x i = (r : EReal)

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem sqdist_real (L : SRow.Idx → ℝ) (C : STab.Idx → ℝ) (r : Fin 4608) (k : Fin N) :
    sqdist (fun i => (L i : EReal)) (fun i => (C i : EReal)) r k
      = ((∑ d : Fin 64, (C (ix2 k d) - L (ix2 r d)) * (C (ix2 k d) - L (ix2 r d)) : ℝ) : EReal) := by
  unfold sqdist
  simp only [← EReal.coe_mul, ← EReal.coe_add, ← coe_sum, ← EReal.coe_sub]
  congr 1
  rw [← Finset.sum_add_distrib, ← Finset.sum_sub_distrib]
  exact Finset.sum_congr rfl fun d _ => by ring

/-- The total of the squared differences of each row and the table row of its code. -/
def total (L : SRow.Idx → ℝ) (C : STab.Idx → ℝ) (b : Fin 4608 → Fin N) : ℝ :=
  ∑ r : Fin 4608, ∑ d : Fin 64, (C (ix2 (b r) d) - L (ix2 r d)) * (C (ix2 (b r) d) - L (ix2 r d))

theorem minSum_real (L : SRow.Idx → ℝ) (C : STab.Idx → ℝ) :
    minSum (fun i => (L i : EReal)) (fun i => (C i : EReal))
      = ((total L C fun r => best (sqdist (fun i => (L i : EReal)) (fun i => (C i : EReal)) r) : ℝ) : EReal) := by
  unfold minSum total
  rw [coe_sum]
  exact Finset.sum_congr rfl fun r _ => sqdist_real L C r _

/-! ## The host's mean -/

theorem square_cell (q lat : FVec Ideal SRes .f32) (i : SRes.Idx) (a b : ℝ) (hq : q i = (a : EReal)) (hl : lat i = (b : EReal)) :
    (mulf (subf q lat) (subf q lat) i : EReal) = (((a - b) * (a - b) : ℝ) : EReal) := by
  show ((q i : EReal) - lat i) * (q i - lat i) = _
  rw [hq, hl, ← EReal.coe_sub, ← EReal.coe_mul]

theorem sum_res (g : SRow.Idx → ℝ) : ∑ i : SRes.Idx, shapeCast SRes g castRes i = ∑ r : Fin 4608, ∑ d : Fin 64, g (ix2 r d) :=
  (Equiv.sum_comp (Shape.reshapeEquiv castRes) g).trans (sum_idx2 g)

theorem host_total (x : FVec Ideal SRes .f32) (g : SRow.Idx → ℝ) (hx : ∀ i, x i = ((shapeCast SRes g castRes i : ℝ) : EReal)) (j : S0.Idx) :
    Host.reduceAdd x (constant S0 .f32 0x00000000#32) redRes pos0 j = ((∑ r : Fin 4608, ∑ d : Fin 64, g (ix2 r d) : ℝ) : EReal) := by
  refine (Ideal.hostReduceAdd_total redRes (fun b => b.elim0) x _ j).trans ?_
  rw [zero_cell, zero_add, ← sum_res, coe_sum]
  exact Finset.sum_congr rfl fun i _ => hx i

theorem mean_cell (x y : FVec Ideal S0 .f32) (j : S0.Idx) (s : ℝ) (hx : x j = (s : EReal)) (hy : y j = ((294912 : ℝ) : EReal)) :
    Host.divf x y j = ((s / 294912 : ℝ) : EReal) := by
  show Ideal.div (x j) (y j) = _
  rw [hx, hy, Ideal.div_coe (by norm_num), ← EReal.coe_mul, mul_one_div]

theorem weigh_cell (x y : FVec Ideal S0 .f32) (j : S0.Idx) (s : ℝ) (hx : x j = ((s / 294912 : ℝ) : EReal)) (hy : y j = ((1 / 4 : ℝ) : EReal)) :
    addf (mulf x y) x j = (s : EReal) * ((5 / 1179648 : ℝ) : EReal) := by
  show (x j * y j : EReal) + x j = _
  rw [hx, hy, ← EReal.coe_mul, ← EReal.coe_add, ← EReal.coe_mul]
  congr 1
  ring

/-- The weighted losses of two real arrays laid out by rows. -/
theorem host_loss_real (Q L : SRow.Idx → ℝ) (q lat : FVec Ideal SRes .f32) (hq : ∀ i, q i = ((shapeCast SRes Q castRes i : ℝ) : EReal))
    (hl : ∀ i, lat i = ((shapeCast SRes L castRes i : ℝ) : EReal)) (j : S0.Idx) :
    hloss q lat j = ((∑ r : Fin 4608, ∑ d : Fin 64, (Q (ix2 r d) - L (ix2 r d)) * (Q (ix2 r d) - L (ix2 r d)) : ℝ) : EReal) * ((5 / 1179648 : ℝ) : EReal) := by
  unfold hloss
  refine weigh_cell _ _ j _ ?_ Consts.quarter_bits
  unfold hmean
  refine mean_cell _ _ j _ ?_ Consts.elems_bits
  exact host_total _ (fun p => (Q p - L p) * (Q p - L p)) (fun i => square_cell q lat i _ _ (hq i) (hl i)) j

theorem st_cell (q lat : FVec Ideal SRes .f32) (i : SRes.Idx) (a b : ℝ) (hq : q i = (a : EReal)) (hl : lat i = (b : EReal)) : hst q lat i = q i := by
  show (lat i : EReal) + (q i - lat i) = q i
  rw [hq, hl, ← EReal.coe_sub, ← EReal.coe_add]
  congr 1
  ring

/-! ## Finite latents and table -/

variable (lat : SRes.Idx → EReal) (cb : STab.Idx → EReal)

theorem rows_reals (hl : Reals lat) : Reals (shapeCast SRow lat castFlat) := fun i => hl _

theorem hrows_picked (idx : IVec SIdx 32) (h : ∀ p, (idx p).toNat < 1024) : hrows (F := Ideal) cb idx = picked cb idx := reshape_take _ _ h _

theorem host_st (hl : Reals lat) (hc : Reals cb) (idx : IVec SIdx 32) (h : ∀ p, (idx p).toNat < 1024) :
    hst (F := Ideal) (hrows (F := Ideal) cb idx) lat = picked cb idx := by
  rw [hrows_picked cb idx h]
  funext i
  obtain ⟨b, hb⟩ := hl i
  obtain ⟨a, ha⟩ := hc (ix2 (Tile.rowAt idx (i 0) (i 1)) (i 2))
  exact st_cell (picked cb idx) lat i a b ha hb

theorem host_loss (hl : Reals lat) (hc : Reals cb) (j : S0.Idx) :
    hloss (F := Ideal) (hrows (F := Ideal) cb (code (shapeCast SRow lat castFlat) cb)) lat j
      = minSum (shapeCast SRow lat castFlat) cb * ((5 / 1179648 : ℝ) : EReal) := by
  choose L hL using rows_reals lat hl
  choose C hC using hc
  have eL : shapeCast SRow lat castFlat = fun i => (L i : EReal) := funext hL
  have eC : cb = fun i => (C i : EReal) := funext hC
  have elat : ∀ i, lat i = ((shapeCast SRes L castRes i : ℝ) : EReal) := fun i => by
    rw [← shapeCast_shapeCast lat castFlat castRes]
    exact hL _
  rw [eL]
  subst eC
  rw [minSum_real]
  generalize hb : (fun r => best (sqdist (fun i => (L i : EReal)) (fun i => (C i : EReal)) r)) = b
  have hcode : ∀ p : SIdx.Idx, (code (fun i => (L i : EReal)) (fun i => (C i : EReal)) p).toNat = (b (p 0)).val := fun p => by
    rw [code_toNat, ← hb]
  refine host_loss_real (fun p => C (ix2 (b (p 0)) (p 1))) L _ lat (fun i => ?_) elat j
  unfold hrows
  show take _ _ _ (Shape.reshapeEquiv castRes i) = _
  generalize hp : Shape.reshapeEquiv castRes i = p
  obtain ⟨r, d, rfl⟩ : ∃ (r : Fin 4608) (d : Fin 64), p = ix2 r d := ⟨p 0, p 1, eq_ix2 p⟩
  refine (take_apply _ _ (code_lt _ _) r d).trans ?_
  show ((C _ : ℝ) : EReal) = ((C (ix2 (b (Shape.reshapeEquiv castRes i 0)) (Shape.reshapeEquiv castRes i 1)) : ℝ) : EReal)
  rw [hp]
  congr 3
  exact Fin.ext (hcode (ix1 r))

end Cert.Proof.Loss

end
-- ==== Proof.Finite.lean ====
/-
  THE PRECONDITION `finite` READ: latents and table are arrays of real numbers.
-/
module

public import proofs.«01_k».proof.Proof.Loss
public import proofs.«01_k».proof.Pre_finite

@[expose] public section

noncomputable section

namespace Cert.Proof.Finite

open Idealize.ShloMosaic Idealize.ShloMosaic.ValueIdx
open Cert.Proof.Loss (Reals)
open Cert.Proof.Take (reduce_andi_iff)

/-- |x| below the largest float pattern read as ⊤: x is real. -/
theorem real_of_lt_top (x b : EReal) (hb : b = ⊤) (h : Ideal.cmp .olt (max x (-x)) b = 1#1) : ∃ r : ℝ, x = (r : EReal) := by
  subst hb
  have h' : max x (-x) < ⊤ := by
    by_contra hn
    simp only [Ideal.cmp] at h
    rw [decide_eq_false hn] at h
    exact absurd h (by decide)
  induction x with
  | bot => simp at h'
  | top => simp at h'
  | coe r => exact ⟨r, rfl⟩

variable [Cert.Pre_finite.Facts]

theorem spread_top {T : Shape} (h : (⟨0, ![]⟩ : Shape).BroadcastsInDim T ![]) (i : T.Idx) :
    (broadcastInDim T ![] h (constant ⟨0, ![]⟩ .f32 0x7F800000#32) : FVec Ideal T .f32) i = (⊤ : EReal) :=
  (broadcastInDim_scalar_apply h _ i).trans Consts.top_bits

theorem reals (lat : FVec Ideal Cert.Pre_finite.S8x576x64 .f32) (cb : FVec Ideal Cert.Pre_finite.S1024x64 .f32)
    (h1 : (Cert.Pre_finite.fn (F := Ideal) lat cb).1 = fun _ => 1#1) (h2 : (Cert.Pre_finite.fn (F := Ideal) lat cb).2 = fun _ => 1#1) :
    Reals lat ∧ Reals cb := by
  unfold Cert.Pre_finite.fn at h1 h2
  have e1 := congrFun h1 ix0
  have e2 := congrFun h2 ix0
  dsimp only at e1 e2
  rw [reduce_andi_iff] at e1 e2
  exact ⟨fun i => real_of_lt_top _ _ (spread_top _ i) (e1 i (funext fun a => a.elim0)),
    fun i => real_of_lt_top _ _ (spread_top _ i) (e2 i (funext fun a => a.elim0))⟩

end Cert.Proof.Finite

end
-- ==== Proof.AssignReferenceRun.lean ====
/-
  THE REFERENCE OF THE TENSORCORE CALL, RUN: @main as the list of its 88 host operations, and every weakly fair execution of it
  ends with the two results at the terms of Terms.lean over the arguments, the arguments unchanged.
-/
module

public import proofs.«01_k».proof.Proof.Gen.AssignReferenceIdeal
public import proofs.«01_k».proof.Proof.Terms
public import Idealize.ShloMosaic.Lib.StableHlo.Run

@[expose] public section

noncomputable section

namespace Cert.Proof.AssignReferenceRun

open Cert.AssignReferenceIdeal Cert.AssignReferenceIdeal.Gen Idealize.ShloMosaic Idealize.ShloMosaic.TcCoe Idealize.SL.Sem Idealize.ShloMosaic.StableHlo
open Cert.Proof.Terms (hcode hrows hloss hst)

variable {F : FTy → Type} [FloatOps F]

/-- @main's operations in order, a called function's in its call's place. -/
abbrev ops : List (HloOp τ sig (Elt F)) :=
  [ reshape main_arg0 main_v0 (rfl : (.f32 : EltTy) = .f32) shapeCasts_S8x576x64_S4608x64,
    binary main_v0 main_v0 main_v1 (mulf : (⟨S4608x64, .f32⟩ : BufTy).Contents (Elt F) → (⟨S4608x64, .f32⟩ : BufTy).Contents (Elt F) → (⟨S4608x64, .f32⟩ : BufTy).Contents (Elt F)),
    nullary main_cst (constant S_ .f32 0x00000000#32),
    binary main_v1 main_cst main_v2 ((fun x v => Host.reduceAdd x v reducesTo_S4608x64_S4608_d1 h_S_) : (⟨S4608x64, .f32⟩ : BufTy).Contents (Elt F) → (⟨S_, .f32⟩ : BufTy).Contents (Elt F) → (⟨S4608, .f32⟩ : BufTy).Contents (Elt F)),
    unary main_v2 main_v3 (broadcastInDim S4608x1 ![0] bcast_S4608_S4608x1_0 : (⟨S4608, .f32⟩ : BufTy).Contents (Elt F) → (⟨S4608x1, .f32⟩ : BufTy).Contents (Elt F)),
    binary main_arg1 main_arg1 main_v4 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v4 main_cst_0 main_v5 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v5 main_v6 (broadcastInDim S1x1024 ![1] bcast_S1024_S1x1024_1 : (⟨S1024, .f32⟩ : BufTy).Contents (Elt F) → (⟨S1x1024, .f32⟩ : BufTy).Contents (Elt F)),
    unary main_v3 main_v7 (broadcastInDim S4608x1024 ![0, 1] bcast_S4608x1_S4608x1024_0_1 : (⟨S4608x1, .f32⟩ : BufTy).Contents (Elt F) → (⟨S4608x1024, .f32⟩ : BufTy).Contents (Elt F)),
    unary main_v6 main_v8 (broadcastInDim S4608x1024 ![0, 1] bcast_S1x1024_S4608x1024_0_1 : (⟨S1x1024, .f32⟩ : BufTy).Contents (Elt F) → (⟨S4608x1024, .f32⟩ : BufTy).Contents (Elt F)),
    binary main_v7 main_v8 main_v9 (addf : (⟨S4608x1024, .f32⟩ : BufTy).Contents (Elt F) → (⟨S4608x1024, .f32⟩ : BufTy).Contents (Elt F) → (⟨S4608x1024, .f32⟩ : BufTy).Contents (Elt F)),
    nullary main_cst_1 (constant S_ .f32 0x40000000#32),
    unary main_cst_1 main_v10 (broadcastInDim S4608x64 ![] bcast_S_S4608x64 : (⟨S_, .f32⟩ : BufTy).Contents (Elt F) → (⟨S4608x64, .f32⟩ : BufTy).Contents (Elt F)),
    binary main_v10 main_v0 main_v11 (mulf : (⟨S4608x64, .f32⟩ : BufTy).Contents (Elt F) → (⟨S4608x64, .f32⟩ : BufTy).Contents (Elt F) → (⟨S4608x64, .f32⟩ : BufTy).Contents (Elt F)),
    unary main_arg1 main_v12 ((transpose S64x1024 [1, 0] · transposes_S1024x64_S64x1024_1_0) : (⟨S1024x64, .f32⟩ : BufTy).Contents (Elt F) → (⟨S64x1024, .f32⟩ : BufTy).Contents (Elt F)),
    binary main_v11 main_v12 main_v13 ((fun l r => Host.dotGeneral dot_S4608x64_S64x1024_S4608x1024_1_0_0_1_n_n none l r) : (⟨S4608x64, .f32⟩ : BufTy).Contents (Elt F) → (⟨S64x1024, .f32⟩ : BufTy).Contents (Elt F) → (⟨S4608x1024, .f32⟩ : BufTy).Contents (Elt F)),
    binary main_v9 main_v13 main_v14 (subf : (⟨S4608x1024, .f32⟩ : BufTy).Contents (Elt F) → (⟨S4608x1024, .f32⟩ : BufTy).Contents (Elt F) → (⟨S4608x1024, .f32⟩ : BufTy).Contents (Elt F)),
    TRef.nullary (TRef.of (T := ⟨S4608x1024, .i32⟩) main_call0_v0) (iotaInDim S4608x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S4608x1024, .f32⟩) main_v14) (TRef.of (T := ⟨S4608x1024, .i32⟩) main_call0_v0) (TRef.of (T := ⟨S_, .f32⟩) main_call0_cst) (TRef.of (T := ⟨S_, .i32⟩) main_call0_c) (TRef.of (T := ⟨S4608, .f32⟩) main_call0_v1_0) (fun x y u v j => (Host.argReduce reducer_argmin_f32_i32 x y u v reducesTo_S4608x1024_S4608_d1 h_S_ j).1),
    TRef.quaternary (TRef.of (T := ⟨S4608x1024, .f32⟩) main_v14) (TRef.of (T := ⟨S4608x1024, .i32⟩) main_call0_v0) (TRef.of (T := ⟨S_, .f32⟩) main_call0_cst) (TRef.of (T := ⟨S_, .i32⟩) main_call0_c) (TRef.of (T := ⟨S4608, .i32⟩) main_v15) (fun x y u v j => (Host.argReduce reducer_argmin_f32_i32 x y u v reducesTo_S4608x1024_S4608_d1 h_S_ j).2),
    reshape main_arg0 main_v16 (rfl : (.f32 : EltTy) = .f32) shapeCasts_S8x576x64_S4608x64,
    binary main_v16 main_v16 main_v17 (mulf : (⟨S4608x64, .f32⟩ : BufTy).Contents (Elt F) → (⟨S4608x64, .f32⟩ : BufTy).Contents (Elt F) → (⟨S4608x64, .f32⟩ : BufTy).Contents (Elt F)),
    nullary main_cst_2 (constant S_ .f32 0x00000000#32),
    binary main_v17 main_cst_2 main_v18 ((fun x v => Host.reduceAdd x v reducesTo_S4608x64_S4608_d1 h_S_) : (⟨S4608x64, .f32⟩ : BufTy).Contents (Elt F) → (⟨S_, .f32⟩ : BufTy).Contents (Elt F) → (⟨S4608, .f32⟩ : BufTy).Contents (Elt F)),
    unary main_v18 main_v19 (broadcastInDim S4608x1 ![0] bcast_S4608_S4608x1_0 : (⟨S4608, .f32⟩ : BufTy).Contents (Elt F) → (⟨S4608x1, .f32⟩ : BufTy).Contents (Elt F)),
    binary main_arg1 main_arg1 main_v20 (mulf : (⟨S1024x64, .f32⟩ : BufTy).Contents (Elt F) → (⟨S1024x64, .f32⟩ : BufTy).Contents (Elt F) → (⟨S1024x64, .f32⟩ : BufTy).Contents (Elt F)),
    nullary main_cst_3 (constant S_ .f32 0x00000000#32),
    binary main_v20 main_cst_3 main_v21 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v21 main_v22 (broadcastInDim S1x1024 ![1] bcast_S1024_S1x1024_1 : (⟨S1024, .f32⟩ : BufTy).Contents (Elt F) → (⟨S1x1024, .f32⟩ : BufTy).Contents (Elt F)),
    unary main_v19 main_v23 (broadcastInDim S4608x1024 ![0, 1] bcast_S4608x1_S4608x1024_0_1 : (⟨S4608x1, .f32⟩ : BufTy).Contents (Elt F) → (⟨S4608x1024, .f32⟩ : BufTy).Contents (Elt F)),
    unary main_v22 main_v24 (broadcastInDim S4608x1024 ![0, 1] bcast_S1x1024_S4608x1024_0_1 : (⟨S1x1024, .f32⟩ : BufTy).Contents (Elt F) → (⟨S4608x1024, .f32⟩ : BufTy).Contents (Elt F)),
    binary main_v23 main_v24 main_v25 (addf : (⟨S4608x1024, .f32⟩ : BufTy).Contents (Elt F) → (⟨S4608x1024, .f32⟩ : BufTy).Contents (Elt F) → (⟨S4608x1024, .f32⟩ : BufTy).Contents (Elt F)),
    nullary main_cst_4 (constant S_ .f32 0x40000000#32),
    unary main_cst_4 main_v26 (broadcastInDim S4608x64 ![] bcast_S_S4608x64 : (⟨S_, .f32⟩ : BufTy).Contents (Elt F) → (⟨S4608x64, .f32⟩ : BufTy).Contents (Elt F)),
    binary main_v26 main_v16 main_v27 (mulf : (⟨S4608x64, .f32⟩ : BufTy).Contents (Elt F) → (⟨S4608x64, .f32⟩ : BufTy).Contents (Elt F) → (⟨S4608x64, .f32⟩ : BufTy).Contents (Elt F)),
    unary main_arg1 main_v28 ((transpose S64x1024 [1, 0] · transposes_S1024x64_S64x1024_1_0) : (⟨S1024x64, .f32⟩ : BufTy).Contents (Elt F) → (⟨S64x1024, .f32⟩ : BufTy).Contents (Elt F)),
    binary main_v27 main_v28 main_v29 ((fun l r => Host.dotGeneral dot_S4608x64_S64x1024_S4608x1024_1_0_0_1_n_n none l r) : (⟨S4608x64, .f32⟩ : BufTy).Contents (Elt F) → (⟨S64x1024, .f32⟩ : BufTy).Contents (Elt F) → (⟨S4608x1024, .f32⟩ : BufTy).Contents (Elt F)),
    binary main_v25 main_v29 main_v30 (subf : (⟨S4608x1024, .f32⟩ : BufTy).Contents (Elt F) → (⟨S4608x1024, .f32⟩ : BufTy).Contents (Elt F) → (⟨S4608x1024, .f32⟩ : BufTy).Contents (Elt F)),
    TRef.nullary (TRef.of (T := ⟨S4608x1024, .i32⟩) main_call1_v0) (iotaInDim S4608x1024 32 1),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S4608x1024, .f32⟩) main_v30) (TRef.of (T := ⟨S4608x1024, .i32⟩) main_call1_v0) (TRef.of (T := ⟨S_, .f32⟩) main_call1_cst) (TRef.of (T := ⟨S_, .i32⟩) main_call1_c) (TRef.of (T := ⟨S4608, .f32⟩) main_call1_v1_0) (fun x y u v j => (Host.argReduce reducer_argmin_f32_i32 x y u v reducesTo_S4608x1024_S4608_d1 h_S_ j).1),
    TRef.quaternary (TRef.of (T := ⟨S4608x1024, .f32⟩) main_v30) (TRef.of (T := ⟨S4608x1024, .i32⟩) main_call1_v0) (TRef.of (T := ⟨S_, .f32⟩) main_call1_cst) (TRef.of (T := ⟨S_, .i32⟩) main_call1_c) (TRef.of (T := ⟨S4608, .i32⟩) main_v31) (fun x y u v j => (Host.argReduce reducer_argmin_f32_i32 x y u v reducesTo_S4608x1024_S4608_d1 h_S_ j).2),
    TRef.nullary (TRef.of (T := ⟨S_, .i32⟩) main_call2_c) (constantI S_ 32 0#32),
    TRef.unary (TRef.of (T := ⟨S_, .i32⟩) main_call2_c) (TRef.of (T := ⟨S4608, .i32⟩) main_call2_v0) (broadcastInDim S4608 ![] bcast_S_S4608),
    TRef.binary (TRef.of (T := ⟨S4608, .i32⟩) main_v31) (TRef.of (T := ⟨S4608, .i32⟩) main_call2_v0) (TRef.of (T := ⟨S4608, .i1⟩) main_call2_v1) (cmpi .slt),
    TRef.nullary (TRef.of (T := ⟨S_, .i32⟩) main_call2_c_0) (constantI S_ 32 1024#32),
    TRef.unary (TRef.of (T := ⟨S_, .i32⟩) main_call2_c_0) (TRef.of (T := ⟨S4608, .i32⟩) main_call2_v2) (broadcastInDim S4608 ![] bcast_S_S4608),
    TRef.binary (TRef.of (T := ⟨S4608, .i32⟩) main_v31) (TRef.of (T := ⟨S4608, .i32⟩) main_call2_v2) (TRef.of (T := ⟨S4608, .i32⟩) main_call2_v3) addi,
    TRef.ternary (TRef.of (T := ⟨S4608, .i1⟩) main_call2_v1) (TRef.of (T := ⟨S4608, .i32⟩) main_call2_v3) (TRef.of (T := ⟨S4608, .i32⟩) main_v31) (TRef.of (T := ⟨S4608, .i32⟩) main_call2_v4) select,
    TRef.unary (TRef.of (T := ⟨S4608, .i32⟩) main_call2_v4) (TRef.of (T := ⟨S4608x1, .i32⟩) main_call2_v5) (broadcastInDim S4608x1 ![0] bcast_S4608_S4608x1_0),
    TRef.nullary (TRef.of (T := ⟨S1, .i32⟩) main_call2_c_1) (constantI S1 32 1023#32),
    TRef.nullary (TRef.of (T := ⟨S_, .i32⟩) main_call2_c_2) (constantI S_ 32 0#32),
    TRef.unary (TRef.of (T := ⟨S_, .i32⟩) main_call2_c_2) (TRef.of (T := ⟨S4608x1, .i32⟩) main_call2_v6) (broadcastInDim S4608x1 ![] bcast_S_S4608x1),
    TRef.binary (TRef.of (T := ⟨S4608x1, .i32⟩) main_call2_v5) (TRef.of (T := ⟨S4608x1, .i32⟩) main_call2_v6) (TRef.of (T := ⟨S4608x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S4608x1, .i32⟩) main_call2_v9) (broadcastInDim S4608x1 ![0, 1] bcast_S1x1_S4608x1_0_1),
    TRef.binary (TRef.of (T := ⟨S4608x1, .i32⟩) main_call2_v5) (TRef.of (T := ⟨S4608x1, .i32⟩) main_call2_v9) (TRef.of (T := ⟨S4608x1, .i1⟩) main_call2_v10) (cmpi .sle),
    TRef.binary (TRef.of (T := ⟨S4608x1, .i1⟩) main_call2_v7) (TRef.of (T := ⟨S4608x1, .i1⟩) main_call2_v10) (TRef.of (T := ⟨S4608x1, .i1⟩) main_call2_v11) andi,
    TRef.nullary (TRef.of (T := ⟨S_, .i1⟩) main_call2_c_3) (constantI S_ 1 1#1),
    TRef.binary (TRef.of (T := ⟨S4608x1, .i1⟩) main_call2_v11) (TRef.of (T := ⟨S_, .i1⟩) main_call2_c_3) (TRef.of (T := ⟨S4608, .i1⟩) main_call2_v12) (fun x v => Host.reduce IntOp.andi x v reducesTo_S4608x1_S4608_d1 h_S_),
    TRef.binary (TRef.of (T := ⟨S1024x64, .f32⟩) main_arg1) (TRef.of (T := ⟨S4608x1, .i32⟩) main_call2_v5) (TRef.of (T := ⟨S4608x64, .f32⟩) main_call2_v13) (fun x i => Host.gather gather_S1024x64_S4608x1_S4608x64_1_0_n_n_0_1_164 x i),
    TRef.unary (TRef.of (T := ⟨S4608, .i1⟩) main_call2_v12) (TRef.of (T := ⟨S4608x64, .i1⟩) main_call2_v14) (broadcastInDim S4608x64 ![0] bcast_S4608_S4608x64_0),
    TRef.nullary (TRef.of (T := ⟨S_, .f32⟩) main_call2_cst) (constant S_ .f32 0x7FC00000#32),
    TRef.unary (TRef.of (T := ⟨S_, .f32⟩) main_call2_cst) (TRef.of (T := ⟨S4608x64, .f32⟩) main_call2_v15) (broadcastInDim S4608x64 ![] bcast_S_S4608x64),
    TRef.ternary (TRef.of (T := ⟨S4608x64, .i1⟩) main_call2_v14) (TRef.of (T := ⟨S4608x64, .f32⟩) main_call2_v13) (TRef.of (T := ⟨S4608x64, .f32⟩) main_call2_v15) (TRef.of (T := ⟨S4608x64, .f32⟩) main_v32) select,
    reshape main_v32 main_v33 (rfl : (.f32 : EltTy) = .f32) shapeCasts_S4608x64_S8x576x64,
    binary main_v33 main_arg0 main_v34 (subf : (⟨S8x576x64, .f32⟩ : BufTy).Contents (Elt F) → (⟨S8x576x64, .f32⟩ : BufTy).Contents (Elt F) → (⟨S8x576x64, .f32⟩ : BufTy).Contents (Elt F)),
    binary main_v34 main_v34 main_v35 (mulf : (⟨S8x576x64, .f32⟩ : BufTy).Contents (Elt F) → (⟨S8x576x64, .f32⟩ : BufTy).Contents (Elt F) → (⟨S8x576x64, .f32⟩ : BufTy).Contents (Elt F)),
    nullary main_cst_5 (constant S_ .f32 0x00000000#32),
    binary main_v35 main_cst_5 main_v36 ((fun x v => Host.reduceAdd x v reducesTo_S8x576x64_S_d0_1_2 h_S_) : (⟨S8x576x64, .f32⟩ : BufTy).Contents (Elt F) → (⟨S_, .f32⟩ : BufTy).Contents (Elt F) → (⟨S_, .f32⟩ : BufTy).Contents (Elt F)),
    nullary main_cst_6 (constant S_ .f32 0x48900000#32),
    binary main_v36 main_cst_6 main_v37 (Host.divf : (⟨S_, .f32⟩ : BufTy).Contents (Elt F) → (⟨S_, .f32⟩ : BufTy).Contents (Elt F) → (⟨S_, .f32⟩ : BufTy).Contents (Elt F)),
    binary main_v33 main_arg0 main_v38 (subf : (⟨S8x576x64, .f32⟩ : BufTy).Contents (Elt F) → (⟨S8x576x64, .f32⟩ : BufTy).Contents (Elt F) → (⟨S8x576x64, .f32⟩ : BufTy).Contents (Elt F)),
    binary main_v38 main_v38 main_v39 (mulf : (⟨S8x576x64, .f32⟩ : BufTy).Contents (Elt F) → (⟨S8x576x64, .f32⟩ : BufTy).Contents (Elt F) → (⟨S8x576x64, .f32⟩ : BufTy).Contents (Elt F)),
    nullary main_cst_7 (constant S_ .f32 0x00000000#32),
    binary main_v39 main_cst_7 main_v40 ((fun x v => Host.reduceAdd x v reducesTo_S8x576x64_S_d0_1_2 h_S_) : (⟨S8x576x64, .f32⟩ : BufTy).Contents (Elt F) → (⟨S_, .f32⟩ : BufTy).Contents (Elt F) → (⟨S_, .f32⟩ : BufTy).Contents (Elt F)),
    nullary main_cst_8 (constant S_ .f32 0x48900000#32),
    binary main_v40 main_cst_8 main_v41 (Host.divf : (⟨S_, .f32⟩ : BufTy).Contents (Elt F) → (⟨S_, .f32⟩ : BufTy).Contents (Elt F) → (⟨S_, .f32⟩ : BufTy).Contents (Elt F)),
    nullary main_cst_9 (constant S_ .f32 0x3E800000#32),
    binary main_v37 main_cst_9 main_v42 (mulf : (⟨S_, .f32⟩ : BufTy).Contents (Elt F) → (⟨S_, .f32⟩ : BufTy).Contents (Elt F) → (⟨S_, .f32⟩ : BufTy).Contents (Elt F)),
    binary main_v42 main_v41 main_v43 (addf : (⟨S_, .f32⟩ : BufTy).Contents (Elt F) → (⟨S_, .f32⟩ : BufTy).Contents (Elt F) → (⟨S_, .f32⟩ : BufTy).Contents (Elt F)),
    binary main_v33 main_arg0 main_v44 (subf : (⟨S8x576x64, .f32⟩ : BufTy).Contents (Elt F) → (⟨S8x576x64, .f32⟩ : BufTy).Contents (Elt F) → (⟨S8x576x64, .f32⟩ : BufTy).Contents (Elt F)),
    binary main_arg0 main_v44 main_v45 (addf : (⟨S8x576x64, .f32⟩ : BufTy).Contents (Elt F) → (⟨S8x576x64, .f32⟩ : BufTy).Contents (Elt F) → (⟨S8x576x64, .f32⟩ : BufTy).Contents (Elt F)),
    reshape main_v43 main_v46 (rfl : (.f32 : EltTy) = .f32) shapeCasts_S_S1x1 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., nullary_bufs_sub .., nullary_bufs_sub .., quaternary_bufs_sub .., quaternary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., reshape_bufs_sub ..⟩

set_option maxRecDepth 8192 in
set_option maxHeartbeats 8000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = hcode reducer_argmin_f32_i32 (m ((c.tc : Thread nD τ).loc main_arg0)) (m ((c.tc : Thread nD τ).loc main_arg1))
      ∧ r.2.mem ((c.tc : Thread nD τ).loc main_v46) = shapeCast S1x1 (hloss (hrows (m ((c.tc : Thread nD τ).loc main_arg1)) (hcode reducer_argmin_f32_i32 (m ((c.tc : Thread nD τ).loc main_arg0)) (m ((c.tc : Thread nD τ).loc main_arg1)))) (m ((c.tc : Thread nD τ).loc main_arg0))) shapeCasts_S_S1x1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v15).trans (by simp only [ops, TRef.binary, TRef.nullary, TRef.ternary, TRef.unary, TRef.quaternary, TRef.toBuf, TRef.ofBuf, cast_eq]; after_results <;> rfl),
      (h c main_v46).trans (by simp only [ops, TRef.binary, TRef.nullary, TRef.ternary, TRef.unary, TRef.quaternary, TRef.toBuf, TRef.ofBuf, cast_eq]; after_results <;> rfl),
      (h c main_arg0).trans (by simp only [ops, TRef.binary, TRef.nullary, TRef.ternary, TRef.unary, TRef.quaternary, TRef.toBuf, TRef.ofBuf, cast_eq]; after_results <;> rfl),
      (h c main_arg1).trans (by simp only [ops, TRef.binary, TRef.nullary, TRef.ternary, TRef.unary, TRef.quaternary, TRef.toBuf, TRef.ofBuf, cast_eq]; after_results <;> rfl)⟩)
    (run_seq scopedRefs_eq scopedSems_eq defs main (fun _ => ops) main_eq (fun _ => ops_sub) m ρ)

end Cert.Proof.AssignReferenceRun

end
-- ==== Proof.ReferenceRun.lean ====
/-
  THE WHOLE REFERENCE, RUN: @main as the list of its 64 host operations, and every weakly fair execution of it
  ends with the two results at the terms of Terms.lean over the arguments, the arguments unchanged.
-/
module

public import proofs.«01_k».proof.Proof.Gen.ReferenceIdeal
public import proofs.«01_k».proof.Proof.Terms
public import Idealize.ShloMosaic.Lib.StableHlo.Run

@[expose] public section

noncomputable section

namespace Cert.Proof.ReferenceRun

open Cert.ReferenceIdeal Cert.ReferenceIdeal.Gen Idealize.ShloMosaic Idealize.ShloMosaic.TcCoe Idealize.SL.Sem Idealize.ShloMosaic.StableHlo
open Cert.Proof.Terms (hcode hrows hloss hst)

variable {F : FTy → Type} [FloatOps F]

/-- @main's operations in order, a called function's in its call's place. -/
abbrev ops : List (HloOp τ sig (Elt F)) :=
  [ reshape main_arg0 main_v0 (rfl : (.f32 : EltTy) = .f32) shapeCasts_S8x576x64_S4608x64,
    binary main_v0 main_v0 main_v1 (mulf : (⟨S4608x64, .f32⟩ : BufTy).Contents (Elt F) → (⟨S4608x64, .f32⟩ : BufTy).Contents (Elt F) → (⟨S4608x64, .f32⟩ : BufTy).Contents (Elt F)),
    nullary main_cst (constant S_ .f32 0x00000000#32),
    binary main_v1 main_cst main_v2 ((fun x v => Host.reduceAdd x v reducesTo_S4608x64_S4608_d1 h_S_) : (⟨S4608x64, .f32⟩ : BufTy).Contents (Elt F) → (⟨S_, .f32⟩ : BufTy).Contents (Elt F) → (⟨S4608, .f32⟩ : BufTy).Contents (Elt F)),
    unary main_v2 main_v3 (broadcastInDim S4608x1 ![0] bcast_S4608_S4608x1_0 : (⟨S4608, .f32⟩ : BufTy).Contents (Elt F) → (⟨S4608x1, .f32⟩ : BufTy).Contents (Elt F)),
    binary main_arg1 main_arg1 main_v4 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v4 main_cst_0 main_v5 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v5 main_v6 (broadcastInDim S1x1024 ![1] bcast_S1024_S1x1024_1 : (⟨S1024, .f32⟩ : BufTy).Contents (Elt F) → (⟨S1x1024, .f32⟩ : BufTy).Contents (Elt F)),
    unary main_v3 main_v7 (broadcastInDim S4608x1024 ![0, 1] bcast_S4608x1_S4608x1024_0_1 : (⟨S4608x1, .f32⟩ : BufTy).Contents (Elt F) → (⟨S4608x1024, .f32⟩ : BufTy).Contents (Elt F)),
    unary main_v6 main_v8 (broadcastInDim S4608x1024 ![0, 1] bcast_S1x1024_S4608x1024_0_1 : (⟨S1x1024, .f32⟩ : BufTy).Contents (Elt F) → (⟨S4608x1024, .f32⟩ : BufTy).Contents (Elt F)),
    binary main_v7 main_v8 main_v9 (addf : (⟨S4608x1024, .f32⟩ : BufTy).Contents (Elt F) → (⟨S4608x1024, .f32⟩ : BufTy).Contents (Elt F) → (⟨S4608x1024, .f32⟩ : BufTy).Contents (Elt F)),
    nullary main_cst_1 (constant S_ .f32 0x40000000#32),
    unary main_cst_1 main_v10 (broadcastInDim S4608x64 ![] bcast_S_S4608x64 : (⟨S_, .f32⟩ : BufTy).Contents (Elt F) → (⟨S4608x64, .f32⟩ : BufTy).Contents (Elt F)),
    binary main_v10 main_v0 main_v11 (mulf : (⟨S4608x64, .f32⟩ : BufTy).Contents (Elt F) → (⟨S4608x64, .f32⟩ : BufTy).Contents (Elt F) → (⟨S4608x64, .f32⟩ : BufTy).Contents (Elt F)),
    unary main_arg1 main_v12 ((transpose S64x1024 [1, 0] · transposes_S1024x64_S64x1024_1_0) : (⟨S1024x64, .f32⟩ : BufTy).Contents (Elt F) → (⟨S64x1024, .f32⟩ : BufTy).Contents (Elt F)),
    binary main_v11 main_v12 main_v13 ((fun l r => Host.dotGeneral dot_S4608x64_S64x1024_S4608x1024_1_0_0_1_n_n none l r) : (⟨S4608x64, .f32⟩ : BufTy).Contents (Elt F) → (⟨S64x1024, .f32⟩ : BufTy).Contents (Elt F) → (⟨S4608x1024, .f32⟩ : BufTy).Contents (Elt F)),
    binary main_v9 main_v13 main_v14 (subf : (⟨S4608x1024, .f32⟩ : BufTy).Contents (Elt F) → (⟨S4608x1024, .f32⟩ : BufTy).Contents (Elt F) → (⟨S4608x1024, .f32⟩ : BufTy).Contents (Elt F)),
    TRef.nullary (TRef.of (T := ⟨S4608x1024, .i32⟩) main_call0_v0) (iotaInDim S4608x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S4608x1024, .f32⟩) main_v14) (TRef.of (T := ⟨S4608x1024, .i32⟩) main_call0_v0) (TRef.of (T := ⟨S_, .f32⟩) main_call0_cst) (TRef.of (T := ⟨S_, .i32⟩) main_call0_c) (TRef.of (T := ⟨S4608, .f32⟩) main_call0_v1_0) (fun x y u v j => (Host.argReduce reducer_argmin_f32_i32 x y u v reducesTo_S4608x1024_S4608_d1 h_S_ j).1),
    TRef.quaternary (TRef.of (T := ⟨S4608x1024, .f32⟩) main_v14) (TRef.of (T := ⟨S4608x1024, .i32⟩) main_call0_v0) (TRef.of (T := ⟨S_, .f32⟩) main_call0_cst) (TRef.of (T := ⟨S_, .i32⟩) main_call0_c) (TRef.of (T := ⟨S4608, .i32⟩) main_v15) (fun x y u v j => (Host.argReduce reducer_argmin_f32_i32 x y u v reducesTo_S4608x1024_S4608_d1 h_S_ j).2),
    TRef.nullary (TRef.of (T := ⟨S_, .i32⟩) main_call1_c) (constantI S_ 32 0#32),
    TRef.unary (TRef.of (T := ⟨S_, .i32⟩) main_call1_c) (TRef.of (T := ⟨S4608, .i32⟩) main_call1_v0) (broadcastInDim S4608 ![] bcast_S_S4608),
    TRef.binary (TRef.of (T := ⟨S4608, .i32⟩) main_v15) (TRef.of (T := ⟨S4608, .i32⟩) main_call1_v0) (TRef.of (T := ⟨S4608, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S4608, .i32⟩) main_call1_v2) (broadcastInDim S4608 ![] bcast_S_S4608),
    TRef.binary (TRef.of (T := ⟨S4608, .i32⟩) main_v15) (TRef.of (T := ⟨S4608, .i32⟩) main_call1_v2) (TRef.of (T := ⟨S4608, .i32⟩) main_call1_v3) addi,
    TRef.ternary (TRef.of (T := ⟨S4608, .i1⟩) main_call1_v1) (TRef.of (T := ⟨S4608, .i32⟩) main_call1_v3) (TRef.of (T := ⟨S4608, .i32⟩) main_v15) (TRef.of (T := ⟨S4608, .i32⟩) main_call1_v4) select,
    TRef.unary (TRef.of (T := ⟨S4608, .i32⟩) main_call1_v4) (TRef.of (T := ⟨S4608x1, .i32⟩) main_call1_v5) (broadcastInDim S4608x1 ![0] bcast_S4608_S4608x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S4608x1, .i32⟩) main_call1_v6) (broadcastInDim S4608x1 ![] bcast_S_S4608x1),
    TRef.binary (TRef.of (T := ⟨S4608x1, .i32⟩) main_call1_v5) (TRef.of (T := ⟨S4608x1, .i32⟩) main_call1_v6) (TRef.of (T := ⟨S4608x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S4608x1, .i32⟩) main_call1_v9) (broadcastInDim S4608x1 ![0, 1] bcast_S1x1_S4608x1_0_1),
    TRef.binary (TRef.of (T := ⟨S4608x1, .i32⟩) main_call1_v5) (TRef.of (T := ⟨S4608x1, .i32⟩) main_call1_v9) (TRef.of (T := ⟨S4608x1, .i1⟩) main_call1_v10) (cmpi .sle),
    TRef.binary (TRef.of (T := ⟨S4608x1, .i1⟩) main_call1_v7) (TRef.of (T := ⟨S4608x1, .i1⟩) main_call1_v10) (TRef.of (T := ⟨S4608x1, .i1⟩) main_call1_v11) andi,
    TRef.nullary (TRef.of (T := ⟨S_, .i1⟩) main_call1_c_3) (constantI S_ 1 1#1),
    TRef.binary (TRef.of (T := ⟨S4608x1, .i1⟩) main_call1_v11) (TRef.of (T := ⟨S_, .i1⟩) main_call1_c_3) (TRef.of (T := ⟨S4608, .i1⟩) main_call1_v12) (fun x v => Host.reduce IntOp.andi x v reducesTo_S4608x1_S4608_d1 h_S_),
    TRef.binary (TRef.of (T := ⟨S1024x64, .f32⟩) main_arg1) (TRef.of (T := ⟨S4608x1, .i32⟩) main_call1_v5) (TRef.of (T := ⟨S4608x64, .f32⟩) main_call1_v13) (fun x i => Host.gather gather_S1024x64_S4608x1_S4608x64_1_0_n_n_0_1_164 x i),
    TRef.unary (TRef.of (T := ⟨S4608, .i1⟩) main_call1_v12) (TRef.of (T := ⟨S4608x64, .i1⟩) main_call1_v14) (broadcastInDim S4608x64 ![0] bcast_S4608_S4608x64_0),
    TRef.nullary (TRef.of (T := ⟨S_, .f32⟩) main_call1_cst) (constant S_ .f32 0x7FC00000#32),
    TRef.unary (TRef.of (T := ⟨S_, .f32⟩) main_call1_cst) (TRef.of (T := ⟨S4608x64, .f32⟩) main_call1_v15) (broadcastInDim S4608x64 ![] bcast_S_S4608x64),
    TRef.ternary (TRef.of (T := ⟨S4608x64, .i1⟩) main_call1_v14) (TRef.of (T := ⟨S4608x64, .f32⟩) main_call1_v13) (TRef.of (T := ⟨S4608x64, .f32⟩) main_call1_v15) (TRef.of (T := ⟨S4608x64, .f32⟩) main_v16) select,
    reshape main_v16 main_v17 (rfl : (.f32 : EltTy) = .f32) shapeCasts_S4608x64_S8x576x64,
    binary main_v17 main_arg0 main_v18 (subf : (⟨S8x576x64, .f32⟩ : BufTy).Contents (Elt F) → (⟨S8x576x64, .f32⟩ : BufTy).Contents (Elt F) → (⟨S8x576x64, .f32⟩ : BufTy).Contents (Elt F)),
    binary main_v18 main_v18 main_v19 (mulf : (⟨S8x576x64, .f32⟩ : BufTy).Contents (Elt F) → (⟨S8x576x64, .f32⟩ : BufTy).Contents (Elt F) → (⟨S8x576x64, .f32⟩ : BufTy).Contents (Elt F)),
    nullary main_cst_2 (constant S_ .f32 0x00000000#32),
    binary main_v19 main_cst_2 main_v20 ((fun x v => Host.reduceAdd x v reducesTo_S8x576x64_S_d0_1_2 h_S_) : (⟨S8x576x64, .f32⟩ : BufTy).Contents (Elt F) → (⟨S_, .f32⟩ : BufTy).Contents (Elt F) → (⟨S_, .f32⟩ : BufTy).Contents (Elt F)),
    nullary main_cst_3 (constant S_ .f32 0x48900000#32),
    binary main_v20 main_cst_3 main_v21 (Host.divf : (⟨S_, .f32⟩ : BufTy).Contents (Elt F) → (⟨S_, .f32⟩ : BufTy).Contents (Elt F) → (⟨S_, .f32⟩ : BufTy).Contents (Elt F)),
    binary main_v17 main_arg0 main_v22 (subf : (⟨S8x576x64, .f32⟩ : BufTy).Contents (Elt F) → (⟨S8x576x64, .f32⟩ : BufTy).Contents (Elt F) → (⟨S8x576x64, .f32⟩ : BufTy).Contents (Elt F)),
    binary main_v22 main_v22 main_v23 (mulf : (⟨S8x576x64, .f32⟩ : BufTy).Contents (Elt F) → (⟨S8x576x64, .f32⟩ : BufTy).Contents (Elt F) → (⟨S8x576x64, .f32⟩ : BufTy).Contents (Elt F)),
    nullary main_cst_4 (constant S_ .f32 0x00000000#32),
    binary main_v23 main_cst_4 main_v24 ((fun x v => Host.reduceAdd x v reducesTo_S8x576x64_S_d0_1_2 h_S_) : (⟨S8x576x64, .f32⟩ : BufTy).Contents (Elt F) → (⟨S_, .f32⟩ : BufTy).Contents (Elt F) → (⟨S_, .f32⟩ : BufTy).Contents (Elt F)),
    nullary main_cst_5 (constant S_ .f32 0x48900000#32),
    binary main_v24 main_cst_5 main_v25 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_v21 main_cst_6 main_v26 (mulf : (⟨S_, .f32⟩ : BufTy).Contents (Elt F) → (⟨S_, .f32⟩ : BufTy).Contents (Elt F) → (⟨S_, .f32⟩ : BufTy).Contents (Elt F)),
    binary main_v26 main_v25 main_v27 (addf : (⟨S_, .f32⟩ : BufTy).Contents (Elt F) → (⟨S_, .f32⟩ : BufTy).Contents (Elt F) → (⟨S_, .f32⟩ : BufTy).Contents (Elt F)),
    binary main_v17 main_arg0 main_v28 (subf : (⟨S8x576x64, .f32⟩ : BufTy).Contents (Elt F) → (⟨S8x576x64, .f32⟩ : BufTy).Contents (Elt F) → (⟨S8x576x64, .f32⟩ : BufTy).Contents (Elt F)),
    binary main_arg0 main_v28 main_v29 (addf : (⟨S8x576x64, .f32⟩ : BufTy).Contents (Elt F) → (⟨S8x576x64, .f32⟩ : BufTy).Contents (Elt F) → (⟨S8x576x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

set_option maxRecDepth 8192 in
set_option maxHeartbeats 8000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = hst (hrows (m ((c.tc : Thread nD τ).loc main_arg1)) (hcode reducer_argmin_f32_i32 (m ((c.tc : Thread nD τ).loc main_arg0)) (m ((c.tc : Thread nD τ).loc main_arg1)))) (m ((c.tc : Thread nD τ).loc main_arg0))
      ∧ r.2.mem ((c.tc : Thread nD τ).loc main_v27) = hloss (hrows (m ((c.tc : Thread nD τ).loc main_arg1)) (hcode reducer_argmin_f32_i32 (m ((c.tc : Thread nD τ).loc main_arg0)) (m ((c.tc : Thread nD τ).loc main_arg1)))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v29).trans (by simp only [ops, TRef.binary, TRef.nullary, TRef.ternary, TRef.unary, TRef.quaternary, TRef.toBuf, TRef.ofBuf, cast_eq]; after_results <;> rfl),
      (h c main_v27).trans (by simp only [ops, TRef.binary, TRef.nullary, TRef.ternary, TRef.unary, TRef.quaternary, TRef.toBuf, TRef.ofBuf, cast_eq]; after_results <;> rfl),
      (h c main_arg0).trans (by simp only [ops, TRef.binary, TRef.nullary, TRef.ternary, TRef.unary, TRef.quaternary, TRef.toBuf, TRef.ofBuf, cast_eq]; after_results <;> rfl),
      (h c main_arg1).trans (by simp only [ops, TRef.binary, TRef.nullary, TRef.ternary, TRef.unary, TRef.quaternary, TRef.toBuf, TRef.ofBuf, cast_eq]; after_results <;> rfl)⟩)
    (run_seq scopedRefs_eq scopedSems_eq defs main (fun _ => ops) main_eq (fun _ => ops_sub) m ρ)

end Cert.Proof.ReferenceRun

end
-- ==== Proof.AssignValue.lean ====
/-
  THE CLAIMS OF THE TENSORCORE CALL over the extended reals (`AssignIdeal` against `AssignReferenceIdeal`): its one
  write-back of each result is the whole array, so the results are the codes and the scaled sum of minima of Dist.lean;
  the reference's are the same, the loss at finite latents and table.
-/
module

public import proofs.«01_k».proof.Defs
public import proofs.«01_k».proof.Proof.Finite
public import proofs.«01_k».proof.Proof.AssignReferenceRun
public import proofs.«01_k».proof.Proof.ReferenceRun
public import proofs.«01_k».proof.Proof.Gen.AssignIdeal.Value
public import proofs.«01_k».proof.Proof.Gen.Pre_finite
public import Idealize.ShloMosaic.Lib.Pipeline.ValueKit.Geometry

@[expose] public section

noncomputable section

namespace Cert.Proof.AssignValue

open Idealize.ShloMosaic Idealize.ShloMosaic.ValueIdx Idealize.ShloMosaic.TcCoe Idealize.SL.Sem
open Cert.Proof.Picked (SRes)
open Cert.Proof.Dist Cert.Proof.HostDist Cert.Proof.Terms Cert.Proof.Loss

section Kernel

open Cert.AssignIdeal Cert.AssignIdeal.Gen

variable (m : (ℓ : Loc nD τ sig) → Buf (Elt Ideal) ℓ)

/-- The call's latents: the argument as rows. -/
theorem entry_rows (c : Dev nD) : V m c main_v0 = shapeCast S4608x64 (m ((c : Thread nD τ).loc main_arg0)) shapeCasts_S8x576x64_S4608x64 := by
  unfold V
  rw [StableHlo.after_cons, StableHlo.after_nil]
  exact StableHlo.reshape_result ..

theorem block_rows (c : Dev nD) : iblk m c 0 t0_0 = V m c main_v0 := by
  funext y
  unfold iblk
  rw [View.read_apply]
  refine congrArg (V m c main_v0) (funext fun a => Fin.ext ?_)
  exact Pipeline.Window.rect_emb_val_of_index_zero win0_0 t0_0 a ((by decide +kernel : ∀ a, win0_0.index t0_0 a = 0) a) y

theorem block_table (c : Dev nD) : iblk m c 1 t0_0 = V m c main_arg1 := by
  funext y
  unfold iblk
  rw [View.read_apply]
  refine congrArg (V m c main_arg1) (funext fun a => Fin.ext ?_)
  exact Pipeline.Window.rect_emb_val_of_index_zero win0_1 t0_0 a ((by decide +kernel : ∀ a, win0_1.index t0_0 a = 0) a) y

theorem left_codes (x0 : Vec Ideal S4608x64 .f32) (x1 : Vec Ideal S1024x64 .f32) : out0_2 x0 x1 = k0_pay3 x0 x1 := by
  unfold out0_2
  generalize k0_pay3 (F := Ideal) = p
  rw [View.canon_unit_zero (funext fun a => by match a with | ⟨0, _⟩ => rfl), View.ld_unit_zero (funext fun a => by match a with | ⟨0, _⟩ => rfl | ⟨1, _⟩ => rfl),
    View.ld_unit_zero (funext fun a => by match a with | ⟨0, _⟩ => rfl | ⟨1, _⟩ => rfl)]

theorem left_loss (x0 : Vec Ideal S4608x64 .f32) (x1 : Vec Ideal S1024x64 .f32) : out0_3 x0 x1 = k0_pay4 x0 x1 := by
  unfold out0_3
  generalize k0_pay4 (F := Ideal) = p
  rw [View.canon_unit_zero (funext fun a => by match a with | ⟨0, _⟩ => rfl | ⟨1, _⟩ => rfl), View.ld_unit_zero (funext fun a => by match a with | ⟨0, _⟩ => rfl | ⟨1, _⟩ => rfl),
    View.ld_unit_zero (funext fun a => by match a with | ⟨0, _⟩ => rfl | ⟨1, _⟩ => rfl)]

theorem last_codes (c : Dev nD) (X : S4608.Idx → BitVec 32) (h : (dats m 0 c).after 2 t0_0 = X) : (dats m 0 c).arrAt 2 cfg0.N = X := by
  refine (dats m 0 c).arrAt_eq_of_after_last 2 t0_0 (by decide +kernel) _ fun j => ?_
  rw [h]
  rfl

theorem last_loss (c : Dev nD) (X : S1x1.Idx → EReal) (h : (dats m 0 c).after 3 t0_0 = X) : (dats m 0 c).arrAt 3 cfg0.N = X := by
  refine (dats m 0 c).arrAt_eq_of_after_last 3 t0_0 (by decide +kernel) _ fun j => ?_
  rw [h]
  rfl

/-- The call's latents by rows. -/
abbrev rows (c : Dev nD) : S4608x64.Idx → EReal := shapeCast S4608x64 (m ((c : Thread nD τ).loc main_arg0)) shapeCasts_S8x576x64_S4608x64
/-- Its table. -/
abbrev table (c : Dev nD) : S1024x64.Idx → EReal := m ((c : Thread nD τ).loc main_arg1)

theorem out_codes (c : Dev nD) : (dats m 0 c).arrAt 2 cfg0.N = code (rows m c) (table m c) :=
  last_codes m c _ (by rw [after0_2, block_rows, block_table, left_codes, kernel_code, entry_rows, V_main_arg1])

theorem out_loss (c : Dev nD) : (dats m 0 c).arrAt 3 cfg0.N = fun _ => minSum (rows m c) (table m c) * ((5 / 1179648 : ℝ) : EReal) :=
  last_loss m c _ (by
    rw [after0_3, block_rows, block_table, left_loss, entry_rows, V_main_arg1]
    exact funext fun i => kernel_loss _ _ i)

end Kernel

theorem frame_reference : Cert.quiescent_ReferenceIdeal := fun m g _ =>
  (θ_run Cert.ReferenceIdeal.defs _ _).mono (fun r h => ⟨fun c => (h c).2.2, sem_eq_zero_of_no_sems (by decide) r.2⟩)
    (ReferenceRun.run (F := Ideal) m g)

theorem frame_assign_reference : Cert.quiescent_AssignReferenceIdeal := fun m g _ =>
  (θ_run Cert.AssignReferenceIdeal.defs _ _).mono (fun r h => ⟨fun c => (h c).2.2, sem_eq_zero_of_no_sems (by decide) r.2⟩)
    (AssignReferenceRun.run (F := Ideal) m g)

theorem reference_codes (lat : SRes.Idx → EReal) (cb : Take.STab.Idx → EReal) :
    hcode (F := Ideal) Cert.AssignReferenceIdeal.reducer_argmin_f32_i32 lat cb = code (shapeCast Take.SRow lat castFlat) cb :=
  host_code _ assign_reducer_eq lat cb

theorem reference_loss (lat : SRes.Idx → EReal) (cb : Take.STab.Idx → EReal) (hl : Reals lat) (hc : Reals cb) (j : Take.S0.Idx) :
    hloss (F := Ideal) (hrows (F := Ideal) cb (hcode (F := Ideal) Cert.AssignReferenceIdeal.reducer_argmin_f32_i32 lat cb)) lat j
      = minSum (shapeCast Take.SRow lat castFlat) cb * ((5 / 1179648 : ℝ) : EReal) := by
  rw [reference_codes]
  exact host_loss lat cb hl hc j

theorem algebraic : Cert.algebraic_AssignIdeal_AssignReferenceIdeal_pre_finite := fun m g m' g' hpre hagree =>
  ⟨fun c => code (rows m c) (table m c), fun c _ => minSum (rows m c) (table m c) * ((5 / 1179648 : ℝ) : EReal),
    (θ_run Cert.AssignIdeal.defs _ _).mono
      (fun _ h c => ⟨(h c).1.trans (out_codes m c), (h c).2.1.trans (out_loss m c), (h c).2.2⟩) (Cert.AssignIdeal.Value.run_blocks (F := Ideal) m g),
    (θ_run Cert.AssignReferenceIdeal.defs _ _).mono
      (fun _ h c => ⟨(h c).1.trans (by
          rw [(hagree c).1, (hagree c).2]
          exact reference_codes _ _),
        (h c).2.1.trans (by
          rw [(hagree c).1, (hagree c).2]
          have hr := Finite.reals _ _ (hpre c).1 (hpre c).2
          exact funext fun i => reference_loss _ _ hr.1 hr.2 _), (h c).2.2⟩)
      (AssignReferenceRun.run (F := Ideal) m' g')⟩

end Cert.Proof.AssignValue

end
-- ==== Proof.KernelValue.lean ====
/-
  THE WHOLE KERNEL'S CLAIMS over the extended reals (`KernelIdeal` against `ReferenceIdeal`). The codes that the
  TensorCore call leaves are those of Dist.lean, so each is below 1024 and the run of KernelRun.lean needs no
  precondition; the result is the rows that the codes pick, the loss the scaled sum of minima, and at finite latents and
  table these are the reference's.
-/
module

public import proofs.«01_k».proof.Defs
public import proofs.«01_k».proof.Proof.KernelRun
public import proofs.«01_k».proof.Proof.AssignValue

@[expose] public section

noncomputable section

namespace Cert.Proof.KernelValue

open Idealize.ShloMosaic Idealize.ShloMosaic.ValueIdx Idealize.ShloMosaic.TcCoe Idealize.SL.Sem
open Cert.Proof.Picked (SRes picked slice_gather_pad)
open Cert.Proof.Take (SRow STab SIdx S0 S11)
open Cert.Proof.Dist Cert.Proof.HostDist Cert.Proof.Terms Cert.Proof.Loss
open Cert.Proof.KernelRegion (blk out2 out3)
open Cert.Proof.KernelRun (V0 V1 V2 V3 V4 V5 V6 Vr codes sums opRow opC opZ opPad opSl opLoss latR cbR rowR idxR sumR cR zR tabR outR resR lossR
  InRange callOut run_main)

section Kernel

open Cert.KernelIdeal Cert.KernelIdeal.Gen

variable (m : (ℓ : Loc nD τ sig) → Buf (Elt Ideal) ℓ)

/-- The latents by rows, and the codebook. -/
abbrev rows (d : Dev nD) : SRow.Idx → EReal := shapeCast SRow (m (d, latR)) castFlat
abbrev table (d : Dev nD) : STab.Idx → EReal := m (d, cbR)

theorem entry_rows (d : Dev nD) : V1 m d rowR = rows m d := by
  unfold V1
  exact StableHlo.reshape_result ..

theorem block_rows (d : Dev nD) : blk (Vr m) d 0 t0_0 = rows m d := by
  refine Eq.trans ?_ (entry_rows m d)
  funext y
  unfold blk
  rw [View.read_apply]
  refine congrArg (V1 m d rowR) (funext fun a => Fin.ext ?_)
  exact Pipeline.Window.rect_emb_val_of_index_zero win0_0 t0_0 a ((by decide +kernel : ∀ a, win0_0.index t0_0 a = 0) a) y

theorem block_table (d : Dev nD) : blk (Vr m) d 1 t0_0 = table m d := by
  refine Eq.trans ?_ (KernelRun.V1_of_ne m d (b := cbR) (by decide))
  funext y
  unfold blk
  rw [View.read_apply]
  refine congrArg (V1 m d cbR) (funext fun a => Fin.ext ?_)
  exact Pipeline.Window.rect_emb_val_of_index_zero win0_1 t0_0 a ((by decide +kernel : ∀ a, win0_1.index t0_0 a = 0) a) y

theorem left_codes (x0 : Vec Ideal S4608x64 .f32) (x1 : Vec Ideal S1024x64 .f32) : out2 x0 x1 = k0_pay3 x0 x1 := by
  unfold out2
  generalize k0_pay3 (F := Ideal) = p
  rw [View.canon_unit_zero (funext fun a => by match a with | ⟨0, _⟩ => rfl), View.ld_unit_zero (funext fun a => by match a with | ⟨0, _⟩ => rfl | ⟨1, _⟩ => rfl),
    View.ld_unit_zero (funext fun a => by match a with | ⟨0, _⟩ => rfl | ⟨1, _⟩ => rfl)]

theorem left_sums (x0 : Vec Ideal S4608x64 .f32) (x1 : Vec Ideal S1024x64 .f32) : out3 x0 x1 = k0_pay4 x0 x1 := by
  unfold out3
  generalize k0_pay4 (F := Ideal) = p
  rw [View.canon_unit_zero (funext fun a => by match a with | ⟨0, _⟩ => rfl | ⟨1, _⟩ => rfl), View.ld_unit_zero (funext fun a => by match a with | ⟨0, _⟩ => rfl | ⟨1, _⟩ => rfl),
    View.ld_unit_zero (funext fun a => by match a with | ⟨0, _⟩ => rfl | ⟨1, _⟩ => rfl)]

/-! The body is that of the call alone, so what it stores is. -/

theorem pay1_eq (x0 : Vec Ideal S4608x64 .f32) (x1 : Vec Ideal S1024x64 .f32) :
    k0_pay1 (F := Ideal) x0 x1 = Cert.AssignIdeal.Gen.k0_pay1 (F := Ideal) x0 x1 := rfl
theorem pay2_eq (x0 : Vec Ideal S4608x64 .f32) (x1 : Vec Ideal S1024x64 .f32) :
    k0_pay2 (F := Ideal) x0 x1 = Cert.AssignIdeal.Gen.k0_pay2 (F := Ideal) x0 x1 := rfl
theorem pay3_eq (x0 : Vec Ideal S4608x64 .f32) (x1 : Vec Ideal S1024x64 .f32) :
    k0_pay3 (F := Ideal) x0 x1 = Cert.AssignIdeal.Gen.k0_pay3 (F := Ideal) x0 x1 := rfl
theorem pay4_eq (x0 : Vec Ideal S4608x64 .f32) (x1 : Vec Ideal S1024x64 .f32) :
    k0_pay4 (F := Ideal) x0 x1 = Cert.AssignIdeal.Gen.k0_pay4 (F := Ideal) x0 x1 := rfl

theorem codes_eq (d : Dev nD) : codes m d = code (rows m d) (table m d) := by
  unfold codes
  rw [left_codes, block_rows, block_table, pay3_eq]
  exact kernel_code _ _

theorem sums_eq (d : Dev nD) : sums m d = fun _ => minSum (rows m d) (table m d) * ((5 / 1179648 : ℝ) : EReal) := by
  unfold sums
  rw [left_sums, block_rows, block_table, pay4_eq]
  exact funext fun i => kernel_loss _ _ i

theorem in_range : InRange (F := Ideal) m := fun d p => by
  rw [codes_eq]
  exact code_lt _ _ p

/-- The padded table, as the SparseCore call reads it. -/
theorem V3_tab (d : Dev nD) : ∃ v : S_.Idx → EReal,
    V3 (F := Ideal) m d tabR = pad S1024x128 ![0, 0] ![0, 64] ![0, 0] (m (d, cbR)) v
      Gen.facts₀.pads_S1024x64_S1024x128_000_0640 Gen.facts₀.h_S_ := by
  refine ⟨((opZ (F := Ideal)).result ((opC (F := Ideal)).result (V2 m d))) zR, ?_⟩
  unfold V3
  rw [show (opPad (F := Ideal)).result ((opZ (F := Ideal)).result ((opC (F := Ideal)).result (V2 m d))) tabR
      = pad S1024x128 ![0, 0] ![0, 64] ![0, 0] (((opZ (F := Ideal)).result ((opC (F := Ideal)).result (V2 m d))) cbR)
          (((opZ (F := Ideal)).result ((opC (F := Ideal)).result (V2 m d))) zR) Gen.facts₀.pads_S1024x64_S1024x128_000_0640 Gen.facts₀.h_S_ from
    StableHlo.binary_result .. ]
  rw [(opZ (F := Ideal)).result_of_not_mem _ (show cbR ∉ ({zR} : Finset (DevRef τ sig)) by decide),
    (opC (F := Ideal)).result_of_not_mem _ (show cbR ∉ ({cR} : Finset (DevRef τ sig)) by decide),
    KernelRun.V2_of_ne m d (show cbR ≠ idxR by decide) (show cbR ≠ sumR by decide), KernelRun.V1_of_ne m d (show cbR ≠ rowR by decide)]

/-- The rows read off a padded table, their first 64 lanes kept. -/
theorem kept (tab : STab.Idx → EReal) (idx : SIdx.Idx → BitVec 32) (v : S_.Idx → EReal) :
    extractStridedSlice S8x576x64 ![0, 0, 0] (Tile.gatherOut (pad S1024x128 ![0, 0] ![0, 64] ![0, 0] tab v
      Gen.facts₀.pads_S1024x64_S1024x128_000_0640 Gen.facts₀.h_S_) idx) Gen.facts₀.slices_S8x576x128_S8x576x64_0_0_0 = picked tab idx :=
  slice_gather_pad _ _ _ _ _ _

theorem call_out (d : Dev nD) (t : tabR.ty.Contents (Elt Ideal)) (i : idxR.ty.Contents (Elt Ideal)) (o : outR.ty.Contents (Elt Ideal)) :
    Tile.gathered (F := Ideal) d (0 : Fin τ.nSC) (0 : Fin τ.nSub) KernelRun.xM KernelRun.iM KernelRun.oM t i o = Tile.gatherOut t i :=
  Tile.read_gathered (F := Ideal) d 0 0 KernelRun.xM KernelRun.iM KernelRun.oM t i o

theorem V4_out (d : Dev nD) : V4 (F := Ideal) m d outR = Tile.gatherOut (V3 (F := Ideal) m d tabR) (V3 (F := Ideal) m d idxR) := by
  unfold V4
  rw [Function.update_self]
  unfold callOut
  generalize V3 (F := Ideal) m d = W
  exact call_out d (W tabR) (W idxR) (W outR)

theorem V5_res (d : Dev nD) : V5 (F := Ideal) m d resR
    = extractStridedSlice S8x576x64 ![0, 0, 0] (V4 (F := Ideal) m d outR) Gen.facts₀.slices_S8x576x128_S8x576x64_0_0_0 :=
  StableHlo.unary_result ..

theorem res_of {W : S8x576x64.Idx → EReal} {O : S8x576x128.Idx → EReal} {T : S1024x128.Idx → EReal} {I idx : S4608.Idx → BitVec 32}
    {tab : S1024x64.Idx → EReal} {v : S_.Idx → EReal}
    (hW : W = extractStridedSlice S8x576x64 ![0, 0, 0] O Gen.facts₀.slices_S8x576x128_S8x576x64_0_0_0) (hO : O = Tile.gatherOut T I)
    (hT : T = pad S1024x128 ![0, 0] ![0, 64] ![0, 0] tab v Gen.facts₀.pads_S1024x64_S1024x128_000_0640 Gen.facts₀.h_S_) (hI : I = idx) :
    W = picked tab idx := by
  subst hI hT hO hW
  exact kept _ _ _

theorem V6_res (d : Dev nD) : V6 (F := Ideal) m d resR = picked (table m d) (code (rows m d) (table m d)) := by
  obtain ⟨v, hv⟩ := V3_tab m d
  exact (KernelRun.V6_of_ne m d (show resR ≠ lossR by decide)).trans
    (res_of (V5_res m d) (V4_out m d) hv ((KernelRun.V3_idx m d).trans (codes_eq m d)))

theorem V6_loss (d : Dev nD) : V6 (F := Ideal) m d lossR = fun _ => minSum (rows m d) (table m d) * ((5 / 1179648 : ℝ) : EReal) := by
  have hs : V6 m d lossR = shapeCast S_ (V5 m d sumR) Gen.facts₀.shapeCasts_S1x1_S_ := by
    unfold V6
    exact StableHlo.reshape_result ..
  rw [hs, KernelRun.V5_of_ne m d (show sumR ≠ resR by decide) (show sumR ≠ outR by decide),
    KernelRun.V3_of_ne m d (show sumR ≠ cR by decide) (show sumR ≠ zR by decide) (show sumR ≠ tabR by decide), KernelRun.V2_sum, sums_eq]
  rfl

theorem run (g : Dev nD → PrngReg) :
    θ_run (Cert.KernelIdeal.defs (F := Ideal)) (Cert.KernelIdeal.threads (F := Ideal)) ⟨m, fun _ => 0, g⟩ (KernelRun.QC (F := Ideal) m) :=
  run_main (F := Ideal) m g (in_range m)

end Kernel

/-! ## The claims -/

theorem frame : Cert.quiescent_KernelIdeal := fun m g _ =>
  (θ_run Cert.KernelIdeal.defs _ _).mono (fun _ h => ⟨fun c => (h.1 c).2.2, h.2⟩) (run m g)

theorem frame_finite : Cert.quiescent_KernelIdeal_pre_finite := fun m g _ => frame m g trivial

theorem frame_reference_finite : Cert.quiescent_ReferenceIdeal_pre_finite := fun m g _ => AssignValue.frame_reference m g trivial

theorem reference_codes (lat : SRes.Idx → EReal) (cb : STab.Idx → EReal) :
    hcode (F := Ideal) Cert.ReferenceIdeal.reducer_argmin_f32_i32 lat cb = code (shapeCast SRow lat castFlat) cb :=
  host_code _ reducer_eq lat cb

theorem reference_rows (lat : SRes.Idx → EReal) (cb : STab.Idx → EReal) (hl : Reals lat) (hc : Reals cb) :
    hst (F := Ideal) (hrows (F := Ideal) cb (hcode (F := Ideal) Cert.ReferenceIdeal.reducer_argmin_f32_i32 lat cb)) lat
      = picked cb (code (shapeCast SRow lat castFlat) cb) := by
  rw [reference_codes]
  exact host_st lat cb hl hc _ (code_lt _ _)

theorem reference_loss (lat : SRes.Idx → EReal) (cb : STab.Idx → EReal) (hl : Reals lat) (hc : Reals cb) :
    hloss (F := Ideal) (hrows (F := Ideal) cb (hcode (F := Ideal) Cert.ReferenceIdeal.reducer_argmin_f32_i32 lat cb)) lat
      = fun _ => minSum (shapeCast SRow lat castFlat) cb * ((5 / 1179648 : ℝ) : EReal) := by
  rw [reference_codes]
  exact funext fun j => host_loss lat cb hl hc j

theorem algebraic : Cert.algebraic_KernelIdeal_ReferenceIdeal_pre_finite := fun m g m' g' hpre hagree =>
  ⟨fun c => picked (table m c) (code (rows m c) (table m c)), fun c _ => minSum (rows m c) (table m c) * ((5 / 1179648 : ℝ) : EReal),
    (θ_run Cert.KernelIdeal.defs _ _).mono
      (fun _ h c => ⟨(h.1 c).1.trans (V6_res m c), (h.1 c).2.1.trans (V6_loss m c), (h.1 c).2.2⟩) (run m g),
    (θ_run Cert.ReferenceIdeal.defs _ _).mono
      (fun _ h c => ⟨(h c).1.trans (by
          rw [(hagree c).1, (hagree c).2]
          have hr := Finite.reals _ _ (hpre c).1 (hpre c).2
          exact reference_rows _ _ hr.1 hr.2),
        (h c).2.1.trans (by
          rw [(hagree c).1, (hagree c).2]
          have hr := Finite.reals _ _ (hpre c).1 (hpre c).2
          exact reference_loss _ _ hr.1 hr.2), (h c).2.2⟩)
      (ReferenceRun.run (F := Ideal) m' g')⟩

end Cert.Proof.KernelValue

end
-- ==== Proof.lean ====
/- The proof of the certificate's claim: each conjunct is a theorem of a module under `Proof/`. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Assign
public import proofs.«01_k».proof.Proof.Gen.Assign.Skeleton
public import proofs.«01_k».proof.Proof.Gen.Assign.Launch
public import proofs.«01_k».proof.Proof.Gen.Assign.Points
public import proofs.«01_k».proof.Proof.Gen.Assign.Frame
public import proofs.«01_k».proof.Proof.Gen.AssignIdeal
public import proofs.«01_k».proof.Proof.Gen.AssignIdeal.Skeleton
public import proofs.«01_k».proof.Proof.Gen.AssignIdeal.Launch
public import proofs.«01_k».proof.Proof.Gen.AssignIdeal.Points
public import proofs.«01_k».proof.Proof.Gen.AssignIdeal.Frame
public import proofs.«01_k».proof.Proof.Gen.AssignIdeal.Value
public import proofs.«01_k».proof.Proof.Gen.AssignReferenceIdeal
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReferenceIdeal
public import proofs.«01_k».proof.Proof.Gen.GatherReferenceIdeal.Run
public import proofs.«01_k».proof.Proof.Gen.GatherReference
public import proofs.«01_k».proof.Proof.Gen.GatherReference.Run
public import proofs.«01_k».proof.Proof.Gen.Pre_finite
public import proofs.«01_k».proof.Proof.Gen.Pre_in_range
public import proofs.«01_k».proof.Proof.GatherValue
public import proofs.«01_k».proof.Proof.KernelValue
public import Idealize.ShloMosaic.Adequacy
public import Idealize.ShloMosaic.Init

@[expose] public section

noncomputable section

namespace Cert.Proof

open Idealize.ShloMosaic Idealize.SL.Sem

theorem claim : Cert.Claim := ⟨Cert.KernelIdeal.Gen.facts, Cert.ReferenceIdeal.Gen.facts, Cert.Assign.Gen.facts, Cert.AssignIdeal.Gen.facts, Cert.AssignReferenceIdeal.Gen.facts, Cert.Gather.Gen.facts, Cert.GatherIdeal.Gen.facts, Cert.GatherReferenceIdeal.Gen.facts, Cert.GatherReference.Gen.facts, Cert.Pre_finite.Gen.facts, Cert.Pre_in_range.Gen.facts,
  KernelValue.frame, KernelValue.frame_finite, AssignValue.frame_reference, KernelValue.frame_reference_finite,
  fun m g _ => Cert.Assign.Gen.frame m g, fun m g _ => Cert.AssignIdeal.Gen.frame m g, fun m g _ => Cert.AssignIdeal.Gen.frame m g,
  AssignValue.frame_assign_reference, fun m g _ => AssignValue.frame_assign_reference m g trivial,
  GatherValue.frame, GatherValue.frame_ideal, GatherValue.frame_reference_ideal, GatherValue.frame_reference_ideal_in_range, GatherValue.frame_reference,
  KernelValue.algebraic,
  IdealRules.named_const.statement Cert.AssignIdeal.κ "loss_scale" .f32 0x368E38E4#32 ((5 / 1179648 : ℝ) : EReal) rfl,
  AssignValue.algebraic, trivial, GatherValue.algebraic, GatherValue.bitexact⟩

end Cert.Proof

end
